-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![1024, 512]⟩ ⟨2, ![32768, 512]⟩ 0 32 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v5) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x512 : Shape := ⟨2, ![1024, 512]⟩
abbrev S2x512 : Shape := ⟨2, ![2, 512]⟩
abbrev S7x2x512 : Shape := ⟨3, ![7, 2, 512]⟩
abbrev S3x2x512 : Shape := ⟨3, ![3, 2, 512]⟩
abbrev S7 : Shape := ⟨1, ![7]⟩
abbrev S3 : Shape := ⟨1, ![3]⟩
abbrev S_ : Shape := ⟨0, ![]⟩
abbrev S512 : Shape := ⟨1, ![512]⟩
abbrev S1x512 : Shape := ⟨2, ![1, 512]⟩
abbrev S1 : Shape := ⟨1, ![1]⟩
abbrev S1x2x512 : Shape := ⟨3, ![1, 2, 512]⟩
abbrev S7x1x512 : Shape := ⟨3, ![7, 1, 512]⟩
abbrev S7x512 : Shape := ⟨2, ![7, 512]⟩
abbrev S8x512 : Shape := ⟨2, ![8, 512]⟩
abbrev S3x1x512 : Shape := ⟨3, ![3, 1, 512]⟩
abbrev S3x512 : Shape := ⟨2, ![3, 512]⟩
abbrev S4x512 : Shape := ⟨2, ![4, 512]⟩

abbrev nBuf : Space → Nat
  | .hbm => 2
  | .vmem => 6
  | .smem => 0
  | _ => 0

abbrev bufTy : (tb : Table) → Fin (tcTables nBuf tb) → BufTy
  | .hbm, ⟨0, _⟩ => ⟨S1024x512, .f32⟩
  | .hbm, ⟨1, _⟩ => ⟨S2x512, .f32⟩
  | .local _ .vmem, ⟨0, _⟩ => ⟨S1024x512, .f32⟩
  | .local _ .vmem, ⟨1, _⟩ => ⟨S2x512, .f32⟩
  | .local _ .vmem, ⟨2, _⟩ => ⟨S2x512, .f32⟩
  | .local _ .vmem, ⟨3, _⟩ => ⟨S2x512, .f32⟩
  | .local _ .vmem, ⟨4, _⟩ => ⟨S7x2x512, .f32⟩
  | .local _ .vmem, ⟨5, _⟩ => ⟨S3x2x512, .f32⟩
  | _, _ => ⟨S1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 1 → Bool
  | ⟨0, _⟩ => false
  | _ => false

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  (ofTc nBuf bufTy 1 22 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_sem0_0 : DmaSem sig := 0
abbrev cc0_sem1_0 : DmaSem sig := 1
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.remsi v2 c8_i32
  let v4 : BitVec 32 := Scalar.subi v2 v3
  let c1_i32_1 : BitVec 32 := 1#32
  let v7 : BitVec 32 := Scalar.addi v3 c1_i32_1
  let c8_i32_2 : BitVec 32 := 8#32
  let v8 : BitVec 32 := Scalar.remsi v7 c8_i32_2
  let v9 : BitVec 32 := Scalar.addi v4 v8
  let c1_i32_4 : BitVec 32 := 1#32
  let v10 : BitVec 32 := Scalar.muli v9 c1_i32_4
  let v11 : BitVec 32 := Scalar.addi c0_i32 v10
  v11.toNat
def k0_dev2 (d0 : Dev nD) : Nat :=
  let c0_i32_8 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.remsi v2 c8_i32
  let v4 : BitVec 32 := Scalar.subi v2 v3
  let c2_i32 : BitVec 32 := 2#32
  let v12 : BitVec 32 := Scalar.addi v3 c2_i32
  let c8_i32_5 : BitVec 32 := 8#32
  let v13 : BitVec 32 := Scalar.remsi v12 c8_i32_5
  let v14 : BitVec 32 := Scalar.addi v4 v13
  let c1_i32_7 : BitVec 32 := 1#32
  let v15 : BitVec 32 := Scalar.muli v14 c1_i32_7
  let v16 : BitVec 32 := Scalar.addi c0_i32_8 v15
  v16.toNat
def k0_dev3 (d0 : Dev nD) : Nat :=
  let c0_i32_12 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.remsi v2 c8_i32
  let v4 : BitVec 32 := Scalar.subi v2 v3
  let c3_i32 : BitVec 32 := 3#32
  let v17 : BitVec 32 := Scalar.addi v3 c3_i32
  let c8_i32_9 : BitVec 32 := 8#32
  let v18 : BitVec 32 := Scalar.remsi v17 c8_i32_9
  let v19 : BitVec 32 := Scalar.addi v4 v18
  let c1_i32_11 : BitVec 32 := 1#32
  let v20 : BitVec 32 := Scalar.muli v19 c1_i32_11
  let v21 : BitVec 32 := Scalar.addi c0_i32_12 v20
  v21.toNat
def k0_dev4 (d0 : Dev nD) : Nat :=
  let c0_i32_16 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.remsi v2 c8_i32
  let v4 : BitVec 32 := Scalar.subi v2 v3
  let c4_i32 : BitVec 32 := 4#32
  let v22 : BitVec 32 := Scalar.addi v3 c4_i32
  let c8_i32_13 : BitVec 32 := 8#32
  let v23 : BitVec 32 := Scalar.remsi v22 c8_i32_13
  let v24 : BitVec 32 := Scalar.addi v4 v23
  let c1_i32_15 : BitVec 32 := 1#32
  let v25 : BitVec 32 := Scalar.muli v24 c1_i32_15
  let v26 : BitVec 32 := Scalar.addi c0_i32_16 v25
  v26.toNat
def k0_dev5 (d0 : Dev nD) : Nat :=
  let c0_i32_20 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.remsi v2 c8_i32
  let v4 : BitVec 32 := Scalar.subi v2 v3
  let c5_i32 : BitVec 32 := 5#32
  let v27 : BitVec 32 := Scalar.addi v3 c5_i32
  let c8_i32_17 : BitVec 32 := 8#32
  let v28 : BitVec 32 := Scalar.remsi v27 c8_i32_17
  let v29 : BitVec 32 := Scalar.addi v4 v28
  let c1_i32_19 : BitVec 32 := 1#32
  let v30 : BitVec 32 := Scalar.muli v29 c1_i32_19
  let v31 : BitVec 32 := Scalar.addi c0_i32_20 v30
  v31.toNat
def k0_dev6 (d0 : Dev nD) : Nat :=
  let c0_i32_24 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.remsi v2 c8_i32
  let v4 : BitVec 32 := Scalar.subi v2 v3
  let c6_i32 : BitVec 32 := 6#32
  let v32 : BitVec 32 := Scalar.addi v3 c6_i32
  let c8_i32_21 : BitVec 32 := 8#32
  let v33 : BitVec 32 := Scalar.remsi v32 c8_i32_21
  let v34 : BitVec 32 := Scalar.addi v4 v33
  let c1_i32_23 : BitVec 32 := 1#32
  let v35 : BitVec 32 := Scalar.muli v34 c1_i32_23
  let v36 : BitVec 32 := Scalar.addi c0_i32_24 v35
  v36.toNat
def k0_dev7 (d0 : Dev nD) : Nat :=
  let c0_i32_28 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.remsi v2 c8_i32
  let v4 : BitVec 32 := Scalar.subi v2 v3
  let c7_i32 : BitVec 32 := 7#32
  let v37 : BitVec 32 := Scalar.addi v3 c7_i32
  let c8_i32_25 : BitVec 32 := 8#32
  let v38 : BitVec 32 := Scalar.remsi v37 c8_i32_25
  let v39 : BitVec 32 := Scalar.addi v4 v38
  let c1_i32_27 : BitVec 32 := 1#32
  let v40 : BitVec 32 := Scalar.muli v39 c1_i32_27
  let v41 : BitVec 32 := Scalar.addi c0_i32_28 v40
  v41.toNat
def k0_dev8 (d0 : Dev nD) : Nat :=
  let c0_i32_34 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_0 : BitVec 32 := 8#32
  let v5 : BitVec 32 := Scalar.divsi v2 c8_i32_0
  let c1_i32_29 : BitVec 32 := 1#32
  let v42 : BitVec 32 := Scalar.addi v5 c1_i32_29
  let c4_i32_30 : BitVec 32 := 4#32
  let v43 : BitVec 32 := Scalar.remsi v42 c4_i32_30
  let c8_i32_31 : BitVec 32 := 8#32
  let v44 : BitVec 32 := Scalar.muli v43 c8_i32_31
  let c8_i32 : BitVec 32 := 8#32
  let v3 : BitVec 32 := Scalar.remsi v2 c8_i32
  let v45 : BitVec 32 := Scalar.addi v44 v3
  let c1_i32_33 : BitVec 32 := 1#32
  let v46 : BitVec 32 := Scalar.muli v45 c1_i32_33
  let v47 : BitVec 32 := Scalar.addi c0_i32_34 v46
  v47.toNat
def k0_dev9 (d0 : Dev nD) : Nat :=
  let c0_i32_40 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_0 : BitVec 32 := 8#32
  let v5 : BitVec 32 := Scalar.divsi v2 c8_i32_0
  let c2_i32_35 : BitVec 32 := 2#32
  let v48 : BitVec 32 := Scalar.addi v5 c2_i32_35
  let c4_i32_36 : BitVec 32 := 4#32
  let v49 : BitVec 32 := Scalar.remsi v48 c4_i32_36
  let c8_i32_37 : BitVec 32 := 8#32
  let v50 : BitVec 32 := Scalar.muli v49 c8_i32_37
  let c8_i32 : BitVec 32 := 8#32
  let v3 : BitVec 32 := Scalar.remsi v2 c8_i32
  let v51 : BitVec 32 := Scalar.addi v50 v3
  let c1_i32_39 : BitVec 32 := 1#32
  let v52 : BitVec 32 := Scalar.muli v51 c1_i32_39
  let v53 : BitVec 32 := Scalar.addi c0_i32_40 v52
  v53.toNat
def k0_dev10 (d0 : Dev nD) : Nat :=
  let c0_i32_46 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_0 : BitVec 32 := 8#32
  let v5 : BitVec 32 := Scalar.divsi v2 c8_i32_0
  let c3_i32_41 : BitVec 32 := 3#32
  let v54 : BitVec 32 := Scalar.addi v5 c3_i32_41
  let c4_i32_42 : BitVec 32 := 4#32
  let v55 : BitVec 32 := Scalar.remsi v54 c4_i32_42
  let c8_i32_43 : BitVec 32 := 8#32
  let v56 : BitVec 32 := Scalar.muli v55 c8_i32_43
  let c8_i32 : BitVec 32 := 8#32
  let v3 : BitVec 32 := Scalar.remsi v2 c8_i32
  let v57 : BitVec 32 := Scalar.addi v56 v3
  let c1_i32_45 : BitVec 32 := 1#32
  let v58 : BitVec 32 := Scalar.muli v57 c1_i32_45
  let v59 : BitVec 32 := Scalar.addi c0_i32_46 v58
  v59.toNat
def k0_dev11 (d0 : Dev nD) : Nat :=
  let c0_i32_58 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.remsi v2 c8_i32
  let v4 : BitVec 32 := Scalar.subi v2 v3
  let c1_i32_52 : BitVec 32 := 1#32
  let v80 : BitVec 32 := Scalar.addi v3 c1_i32_52
  let c8_i32_53 : BitVec 32 := 8#32
  let v81 : BitVec 32 := Scalar.remsi v80 c8_i32_53
  let v82 : BitVec 32 := Scalar.addi v4 v81
  let c1_i32_57 : BitVec 32 := 1#32
  let v83 : BitVec 32 := Scalar.muli v82 c1_i32_57
  let v84 : BitVec 32 := Scalar.addi c0_i32_58 v83
  v84.toNat
def k0_dev12 (d0 : Dev nD) : Nat :=
  let c0_i32_67 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.remsi v2 c8_i32
  let v4 : BitVec 32 := Scalar.subi v2 v3
  let c2_i32_61 : BitVec 32 := 2#32
  let v91 : BitVec 32 := Scalar.addi v3 c2_i32_61
  let c8_i32_62 : BitVec 32 := 8#32
  let v92 : BitVec 32 := Scalar.remsi v91 c8_i32_62
  let v93 : BitVec 32 := Scalar.addi v4 v92
  let c1_i32_66 : BitVec 32 := 1#32
  let v94 : BitVec 32 := Scalar.muli v93 c1_i32_66
  let v95 : BitVec 32 := Scalar.addi c0_i32_67 v94
  v95.toNat
def k0_dev13 (d0 : Dev nD) : Nat :=
  let c0_i32_76 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.remsi v2 c8_i32
  let v4 : BitVec 32 := Scalar.subi v2 v3
  let c3_i32_70 : BitVec 32 := 3#32
  let v102 : BitVec 32 := Scalar.addi v3 c3_i32_70
  let c8_i32_71 : BitVec 32 := 8#32
  let v103 : BitVec 32 := Scalar.remsi v102 c8_i32_71
  let v104 : BitVec 32 := Scalar.addi v4 v103
  let c1_i32_75 : BitVec 32 := 1#32
  let v105 : BitVec 32 := Scalar.muli v104 c1_i32_75
  let v106 : BitVec 32 := Scalar.addi c0_i32_76 v105
  v106.toNat
def k0_dev14 (d0 : Dev nD) : Nat :=
  let c0_i32_85 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.remsi v2 c8_i32
  let v4 : BitVec 32 := Scalar.subi v2 v3
  let c4_i32_79 : BitVec 32 := 4#32
  let v113 : BitVec 32 := Scalar.addi v3 c4_i32_79
  let c8_i32_80 : BitVec 32 := 8#32
  let v114 : BitVec 32 := Scalar.remsi v113 c8_i32_80
  let v115 : BitVec 32 := Scalar.addi v4 v114
  let c1_i32_84 : BitVec 32 := 1#32
  let v116 : BitVec 32 := Scalar.muli v115 c1_i32_84
  let v117 : BitVec 32 := Scalar.addi c0_i32_85 v116
  v117.toNat
def k0_dev15 (d0 : Dev nD) : Nat :=
  let c0_i32_94 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.remsi v2 c8_i32
  let v4 : BitVec 32 := Scalar.subi v2 v3
  let c5_i32_88 : BitVec 32 := 5#32
  let v124 : BitVec 32 := Scalar.addi v3 c5_i32_88
  let c8_i32_89 : BitVec 32 := 8#32
  let v125 : BitVec 32 := Scalar.remsi v124 c8_i32_89
  let v126 : BitVec 32 := Scalar.addi v4 v125
  let c1_i32_93 : BitVec 32 := 1#32
  let v127 : BitVec 32 := Scalar.muli v126 c1_i32_93
  let v128 : BitVec 32 := Scalar.addi c0_i32_94 v127
  v128.toNat
def k0_dev16 (d0 : Dev nD) : Nat :=
  let c0_i32_103 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.remsi v2 c8_i32
  let v4 : BitVec 32 := Scalar.subi v2 v3
  let c6_i32_97 : BitVec 32 := 6#32
  let v135 : BitVec 32 := Scalar.addi v3 c6_i32_97
  let c8_i32_98 : BitVec 32 := 8#32
  let v136 : BitVec 32 := Scalar.remsi v135 c8_i32_98
  let v137 : BitVec 32 := Scalar.addi v4 v136
  let c1_i32_102 : BitVec 32 := 1#32
  let v138 : BitVec 32 := Scalar.muli v137 c1_i32_102
  let v139 : BitVec 32 := Scalar.addi c0_i32_103 v138
  v139.toNat
def k0_dev17 (d0 : Dev nD) : Nat :=
  let c0_i32_112 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.remsi v2 c8_i32
  let v4 : BitVec 32 := Scalar.subi v2 v3
  let c7_i32_106 : BitVec 32 := 7#32
  let v146 : BitVec 32 := Scalar.addi v3 c7_i32_106
  let c8_i32_107 : BitVec 32 := 8#32
  let v147 : BitVec 32 := Scalar.remsi v146 c8_i32_107
  let v148 : BitVec 32 := Scalar.addi v4 v147
  let c1_i32_111 : BitVec 32 := 1#32
  let v149 : BitVec 32 := Scalar.muli v148 c1_i32_111
  let v150 : BitVec 32 := Scalar.addi c0_i32_112 v149
  v150.toNat
def k0_dev18 (d0 : Dev nD) : Nat :=
  let c0_i32_230 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_0 : BitVec 32 := 8#32
  let v5 : BitVec 32 := Scalar.divsi v2 c8_i32_0
  let c1_i32_223 : BitVec 32 := 1#32
  let v248 : BitVec 32 := Scalar.addi v5 c1_i32_223
  let c4_i32_224 : BitVec 32 := 4#32
  let v249 : BitVec 32 := Scalar.remsi v248 c4_i32_224
  let c8_i32_225 : BitVec 32 := 8#32
  let v250 : BitVec 32 := Scalar.muli v249 c8_i32_225
  let c8_i32 : BitVec 32 := 8#32
  let v3 : BitVec 32 := Scalar.remsi v2 c8_i32
  let v251 : BitVec 32 := Scalar.addi v250 v3
  let c1_i32_229 : BitVec 32 := 1#32
  let v252 : BitVec 32 := Scalar.muli v251 c1_i32_229
  let v253 : BitVec 32 := Scalar.addi c0_i32_230 v252
  v253.toNat
def k0_dev19 (d0 : Dev nD) : Nat :=
  let c0_i32_240 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_0 : BitVec 32 := 8#32
  let v5 : BitVec 32 := Scalar.divsi v2 c8_i32_0
  let c2_i32_233 : BitVec 32 := 2#32
  let v260 : BitVec 32 := Scalar.addi v5 c2_i32_233
  let c4_i32_234 : BitVec 32 := 4#32
  let v261 : BitVec 32 := Scalar.remsi v260 c4_i32_234
  let c8_i32_235 : BitVec 32 := 8#32
  let v262 : BitVec 32 := Scalar.muli v261 c8_i32_235
  let c8_i32 : BitVec 32 := 8#32
  let v3 : BitVec 32 := Scalar.remsi v2 c8_i32
  let v263 : BitVec 32 := Scalar.addi v262 v3
  let c1_i32_239 : BitVec 32 := 1#32
  let v264 : BitVec 32 := Scalar.muli v263 c1_i32_239
  let v265 : BitVec 32 := Scalar.addi c0_i32_240 v264
  v265.toNat
def k0_dev20 (d0 : Dev nD) : Nat :=
  let c0_i32_250 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_0 : BitVec 32 := 8#32
  let v5 : BitVec 32 := Scalar.divsi v2 c8_i32_0
  let c3_i32_243 : BitVec 32 := 3#32
  let v272 : BitVec 32 := Scalar.addi v5 c3_i32_243
  let c4_i32_244 : BitVec 32 := 4#32
  let v273 : BitVec 32 := Scalar.remsi v272 c4_i32_244
  let c8_i32_245 : BitVec 32 := 8#32
  let v274 : BitVec 32 := Scalar.muli v273 c8_i32_245
  let c8_i32 : BitVec 32 := 8#32
  let v3 : BitVec 32 := Scalar.remsi v2 c8_i32
  let v275 : BitVec 32 := Scalar.addi v274 v3
  let c1_i32_249 : BitVec 32 := 1#32
  let v276 : BitVec 32 := Scalar.muli v275 c1_i32_249
  let v277 : BitVec 32 := Scalar.addi c0_i32_250 v276
  v277.toNat
abbrev stage0_0 : Fin 1 → Memref sig .tc .vmem S1024x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S32768x512 : Shape := ⟨2, ![32768, 512]⟩
abbrev S_ : Shape := ⟨0, ![]⟩
abbrev S512 : Shape := ⟨1, ![512]⟩
abbrev S1x512 : Shape := ⟨2, ![1, 512]⟩
abbrev S2x512 : Shape := ⟨2, ![2, 512]⟩

abbrev nBuf : Space → Nat
  | .hbm => 12
  | .vmem => 0
  | .smem => 0
  | _ => 0

abbrev bufTy : (tb : Table) → Fin (tcTables nBuf tb) → BufTy
  | .hbm, ⟨0, _⟩ => ⟨S32768x512, .f32⟩
  | .hbm, ⟨1, _⟩ => ⟨S32768x512, .i32⟩
  | .hbm, ⟨2, _⟩ => ⟨S_, .f32⟩
  | .hbm, ⟨3, _⟩ => ⟨S_, .i32⟩
  | .hbm, ⟨4, _⟩ => ⟨S512, .f32⟩
  | .hbm, ⟨5, _⟩ => ⟨S512, .i32⟩
  | .hbm, ⟨6, _⟩ => ⟨S512, .f32⟩
  | .hbm, ⟨7, _⟩ => ⟨S_, .f32⟩
  | .hbm, ⟨8, _⟩ => ⟨S512, .f32⟩
  | .hbm, ⟨9, _⟩ => ⟨S1x512, .f32⟩
  | .hbm, ⟨10, _⟩ => ⟨S1x512, .f32⟩
  | .hbm, ⟨11, _⟩ => ⟨S2x512, .f32⟩
  | _, _ => ⟨S32768x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_call0_v0 : Ref sig .tc := ⟨.hbm, 1, rfl⟩
abbrev main_call0_cst : Ref sig .tc := ⟨.hbm, 2, rfl⟩
abbrev main_call0_c : Ref sig .tc := ⟨.hbm, 3, rfl⟩
abbrev main_call0_v1_0 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩

abbrev nD : Nat := 1
abbrev τ : Topo := Topo.v7x

variable {F : FTy → Type} [FloatOps F]
-- ==== Proof.Peers.lean ====
/-
Who talks to whom. The 32 devices form four planes of eight. A device exchanges with ten others: the seven
others of its plane (exchanges 0..6, at distances 1..7 round the plane) and the three devices at its place in
the other planes (exchanges 7..9, at distances 1..3). Exchange `j` of one device is exchange `back j` of its
partner.
-/
module

public import proofs.«01_k».proof.Proof.Gen.KernelIdeal

@[expose] public section

noncomputable section

namespace Cert.KernelIdeal.Own

open Cert.KernelIdeal Cert.KernelIdeal.Gen
open Idealize.ShloMosaic

/-- The partner of device `c` in exchange `j`. -/
def peer (c : Dev nD) (j : Fin 10) : Dev nD :=
  if j.val < 7 then ⟨(8 * (c.val / 8) + (c.val % 8 + j.val + 1) % 8) % 32, Nat.mod_lt _ (Nat.succ_pos 31)⟩
  else ⟨(8 * ((c.val / 8 + (j.val - 6)) % 4) + c.val % 8) % 32, Nat.mod_lt _ (Nat.succ_pos 31)⟩

/-- The number the partner gives the exchange: 6 - j within the plane, 16 - j across planes. -/
def back (j : Fin 10) : Fin 10 :=
  ⟨(if j.val < 7 then 6 - j.val else 16 - j.val) % 10, Nat.mod_lt _ (Nat.succ_pos 9)⟩

/-- Numbering an exchange from the other side twice gives the number back. -/
theorem back_back (j : Fin 10) : back (back j) = j := by revert j; decide

/-- An exchange and its number from the other side belong to the same phase. -/
theorem back_lt (j : Fin 10) : (back j).val < 7 ↔ j.val < 7 := by revert j; decide

/-- The partner's partner in the same exchange is the device itself. -/
theorem peer_back (c : Dev nD) (j : Fin 10) : peer (peer c j) (back j) = c := by revert c j; decide +kernel

/-- Two exchanges of one device have different partners. -/
theorem peer_inj (c : Dev nD) (i j : Fin 10) (h : peer c i = peer c j) : i = j := by
  revert c i j; decide +kernel

/-- An exchange seen from the two sides: a permutation of the pairs of a device and an exchange. -/
def across : Dev nD × Fin 10 ≃ Dev nD × Fin 10 where
  toFun p := (peer p.1 p.2, back p.2)
  invFun p := (peer p.1 p.2, back p.2)
  left_inv p := by ext1 <;> simp only [peer_back, back_back]
  right_inv p := by ext1 <;> simp only [peer_back, back_back]

/-- The devices the ten signals name, in program order. -/
def signalDev (c : Dev nD) : Fin 10 → Dev nD :=
  ![⟨k0_dev1 c, k0_dev1_lt c⟩, ⟨k0_dev2 c, k0_dev2_lt c⟩, ⟨k0_dev3 c, k0_dev3_lt c⟩, ⟨k0_dev4 c, k0_dev4_lt c⟩,
    ⟨k0_dev5 c, k0_dev5_lt c⟩, ⟨k0_dev6 c, k0_dev6_lt c⟩, ⟨k0_dev7 c, k0_dev7_lt c⟩, ⟨k0_dev8 c, k0_dev8_lt c⟩,
    ⟨k0_dev9 c, k0_dev9_lt c⟩, ⟨k0_dev10 c, k0_dev10_lt c⟩]

/-- The devices the ten copies name, in program order. -/
def copyDev (c : Dev nD) : Fin 10 → Dev nD :=
  ![⟨k0_dev11 c, k0_dev11_lt c⟩, ⟨k0_dev12 c, k0_dev12_lt c⟩, ⟨k0_dev13 c, k0_dev13_lt c⟩, ⟨k0_dev14 c, k0_dev14_lt c⟩,
    ⟨k0_dev15 c, k0_dev15_lt c⟩, ⟨k0_dev16 c, k0_dev16_lt c⟩, ⟨k0_dev17 c, k0_dev17_lt c⟩, ⟨k0_dev18 c, k0_dev18_lt c⟩,
    ⟨k0_dev19 c, k0_dev19_lt c⟩, ⟨k0_dev20 c, k0_dev20_lt c⟩]

/-- Signal `j` goes to the partner of exchange `j`. -/
theorem signalDev_eq (c : Dev nD) (j : Fin 10) : signalDev c j = peer c j := by revert c j; decide +kernel

/-- Copy `j` goes to the partner of exchange `j`. -/
theorem copyDev_eq (c : Dev nD) (j : Fin 10) : copyDev c j = peer c j := by revert c j; decide +kernel

end Cert.KernelIdeal.Own
-- ==== Proof.Slots.lean ====
/-
The buffers and semaphores of the exchanges: where exchange `j` of a device lands, from what it is sent, and
on which semaphores its two ends complete; and a landing buffer as its landing places.
-/
module

public import proofs.«01_k».proof.Proof.Peers
public import Idealize.ShloMosaic.Lib.Memref
public import Idealize.ShloMosaic.Lib.Tactic

@[expose] public section

noncomputable section

namespace Cert.KernelIdeal.Own

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

/-- The staged argument, the result, the device's pair, its plane's pair, and the two landing buffers. -/
abbrev xM : Memref sig .tc .vmem S1024x512 .f32 := Memref.whole cc0_stg0_0
abbrev oM : Memref sig .tc .vmem S2x512 .f32 := Memref.whole cc0_stg1_0
abbrev aM : Memref sig .tc .vmem S2x512 .f32 := Memref.whole cc0_scratch0
abbrev bM : Memref sig .tc .vmem S2x512 .f32 := Memref.whole cc0_scratch1
abbrev rM : Memref sig .tc .vmem S7x2x512 .f32 := Memref.whole cc0_scratch2
abbrev zM : Memref sig .tc .vmem S3x2x512 .f32 := Memref.whole cc0_scratch3

/-- A stack of `n` blocks of 2x512. -/
abbrev Stack (n : ℕ) : Shape := ⟨3, ![n, 2, 512]⟩

/-- Block `s` of a stack of `n` is inside it. -/
theorem block_inb (n s : ℕ) (h : s < n) : ∀ a, (![s, 0, 0] : Fin 3 → Nat) a + S1x2x512.size a ≤ (Stack n).size a := by
  intro a; fin_cases a
  · exact h
  · exact Nat.le_refl 2
  · exact Nat.le_refl 512

/-- The rectangle of block `s` in a stack of `n`. -/
abbrev block (n : ℕ) (s : Fin n) : Rect (Stack n) := Rect.unit (s := Stack n) ![s.val, 0, 0] S1x2x512.size (block_inb n s.val s.isLt)

/-- Block `s` of a stack, as a 2x512 memref. -/
abbrev place {n : ℕ} (M : Memref sig .tc .vmem (Stack n) .f32) (s : Fin n) : Memref sig .tc .vmem S2x512 .f32 :=
  (M.slice (block n s) (fun _ => rfl)).squeeze S2x512 squeezes_S1x2x512_S2x512

/-- An index is in block `s` when its first coordinate is `s`. -/
theorem mem_block {n : ℕ} (s : Fin n) (i : (Stack n).Idx) : i ∈ (block n s).set ↔ (i 0).val = s.val := by
  rw [Rect.mem_set_unit]
  constructor
  · intro h
    have h0 : s.val ≤ (i 0).val ∧ (i 0).val < s.val + 1 := h 0
    omega
  · intro h a
    fin_cases a
    · show s.val ≤ (i 0).val ∧ (i 0).val < s.val + 1; omega
    · exact ⟨Nat.zero_le _, lt_of_lt_of_eq (i 1).isLt (Nat.zero_add 2).symm⟩
    · exact ⟨Nat.zero_le _, lt_of_lt_of_eq (i 2).isLt (Nat.zero_add 512).symm⟩

/-- Two blocks of a stack share no index. -/
theorem block_disjoint {n : ℕ} (s t : Fin n) (h : s ≠ t) : Disjoint (block n s).set (block n t).set :=
  Finset.disjoint_left.mpr fun i hs ht => h (Fin.ext (((mem_block s i).mp hs).symm.trans ((mem_block t i).mp ht)))

/-- The blocks of a stack cover it. -/
theorem block_cover (n : ℕ) : (Finset.univ : Finset (Fin n)).biUnion (fun s => (block n s).set) = Finset.univ :=
  Finset.eq_univ_iff_forall.mpr fun i => Finset.mem_biUnion.mpr ⟨i 0, Finset.mem_univ _, (mem_block _ i).mpr rfl⟩

/-- The index `(s, x)` of a stack. -/
abbrev stackIdx {n : ℕ} (s : Fin n) (x : S2x512.Idx) : (Stack n).Idx := Fin.cons s x

/-- Index `x` of block `s` is index `(s, x)` of the stack. -/
theorem block_emb {n : ℕ} (s : Fin n) (h : S2x512.numel = (block n s).shape.numel) (x : S2x512.Idx) :
    (block n s).emb (Shape.reshapeEquiv (s := (block n s).shape) h x) = stackIdx s x := by
  have e : Shape.reshapeEquiv (s := (block n s).shape) h x = Fin.cons ⟨0, Nat.one_pos⟩ x := Shape.reshapeEquiv_cons_one _ x
  rw [e]
  funext a
  apply Fin.ext
  rw [Rect.emb_apply]
  refine Fin.cases ?_ (fun b => ?_) a
  · show s.val + 1 * 0 = s.val; omega
  · fin_cases b
    · show 0 + 1 * (x 0).val = (x 0).val; omega
    · show 0 + 1 * (x 1).val = (x 1).val; omega

section Pieces
variable {Val : EltTy → Type} [∀ e, Nonempty (Val e)] {Name U Lvl : Type} [DecidableEq Name] [URA U]
local notation "𝕄" => MT nD τ sig Unit Val Name U Lvl

omit [∀ e, Nonempty (Val e)] in
/-- A squeezed memref owned is the memref owned, the contents read through the matching of indices. -/
theorem owns_squeezed (c : Thread nD τ) {sp : Space} {sh sh' : Shape} {e : EltTy} (M : Memref sig c.2.kind sp sh e)
    (h : sh.Squeezes sh') (q : PosShare TreeShare) (X : sh'.Idx → Val e) (Y : sh.Idx → Val e)
    (hX : ∀ x, X x = Y (Shape.reshapeEquiv h.numel_eq x)) :
    (owns c (M.squeeze sh' h) q X : sProp 𝕄) = owns c M q Y := by
  have hr (f) : (M.squeeze sh' h).view.read Val f = X ↔ M.view.read Val f = Y :=
    ⟨fun hf => funext fun y => by
      have hy := congrFun hf ((Shape.reshapeEquiv h.numel_eq).symm y)
      rw [hX, Equiv.apply_symm_apply] at hy
      rw [← hy]
      exact congrArg (M.view.read Val f) (Equiv.apply_symm_apply _ y).symm,
     fun hf => funext fun x => by rw [hX, ← hf]; rfl⟩
  have hset : (M.squeeze sh' h).view.set = M.view.set := View.set_reshape _ _
  have h₁ : (owns c (M.squeeze sh' h) q X : sProp 𝕄) ⊢ owns c M q Y := by
    unfold owns
    rw [hset]
    iintro ⟨%f, %hf, H⟩
    iexists f
    isplitr; · ipureintro; exact (hr f).mp hf
    iexact H
  have h₂ : (owns c M q Y : sProp 𝕄) ⊢ owns c (M.squeeze sh' h) q X := by
    unfold owns
    rw [hset]
    iintro ⟨%f, %hf, H⟩
    iexists f
    isplitr; · ipureintro; exact (hr f).mpr hf
    iexact H
  exact BI.equiv_iff.mp ⟨h₁, h₂⟩

/-- A stack owned at `G` is each of its blocks owned at its part of `G`. -/
theorem owns_places {n : ℕ} (c : Dev nD) (M : Memref sig .tc .vmem (Stack n) .f32) (q : PosShare TreeShare) (G : (Stack n).Idx → Val .f32) :
    (owns (c : Thread nD τ) M q G : sProp 𝕄)
      = bigSep Finset.univ fun s : Fin n => owns (c : Thread nD τ) (place M s) q (fun x => G (stackIdx s x)) := by
  have hs (s : Fin n) : (owns (c : Thread nD τ) (place M s) q (fun x => G (stackIdx s x)) : sProp 𝕄)
      = owns (c : Thread nD τ) (M.slice (block n s) (fun _ => rfl)) q (fun j => G ((block n s).emb j)) :=
    owns_squeezed (c : Thread nD τ) (M.slice (block n s) (fun _ => rfl)) squeezes_S1x2x512_S2x512 q
      (fun x => G (stackIdx s x)) (fun j => G ((block n s).emb j)) (fun x => congrArg G (block_emb s _ x).symm)
  rw [bigSep_congr fun s _ => hs s]
  exact BI.equiv_iff.mp ⟨owns_rects (c : Thread nD τ) M q (block n) (fun _ _ => rfl) block_disjoint (block_cover n) G,
    owns_of_rects (c : Thread nD τ) M q (block n) (fun _ _ => rfl) block_disjoint (block_cover n) G⟩

end Pieces

/-- Where what arrives in exchange `j` lands: 0..6 in the first landing buffer, 7..9 in the second. -/
def slot (j : Fin 10) : Memref sig .tc .vmem S2x512 .f32 :=
  if h : j.val < 7 then place rM ⟨j.val, h⟩ else place zM ⟨j.val - 7, by have := j.isLt; omega⟩

/-- What exchange `j` sends: the device's pair within the plane, the plane's pair across planes. -/
def src (j : Fin 10) : Memref sig .tc .vmem S2x512 .f32 := if j.val < 7 then aM else bM

/-- The semaphore the sending end of exchange `j` completes on, and the one the arrival completes on. -/
def sendS (j : Fin 10) : DmaSem sig := ⟨if j.val < 7 then j.val + 2 else j.val + 9, by have := j.isLt; show _ < 22; split <;> omega⟩
def recvS (j : Fin 10) : DmaSem sig := ⟨if j.val < 7 then j.val + 9 else j.val + 12, by have := j.isLt; show _ < 22; split <;> omega⟩

/-- The machine's barrier semaphore. -/
abbrev barS : Sem sig := (SemArray.scalar (sig.barrier 0 rfl) : Sems sig S_).sem

abbrev barCell (c : Dev nD) : GSem nD τ sig := ((c : Thread nD τ), .reg barS)
abbrev sendCell (c : Dev nD) (j : Fin 10) : GSem nD τ sig := ((c : Thread nD τ), .dma (sendS j))
abbrev recvCell (c : Dev nD) (j : Fin 10) : GSem nD τ sig := ((c : Thread nD τ), .dma (recvS j))

theorem sendS_inj (i j : Fin 10) (h : sendS i = sendS j) : i = j := by revert i j; decide
theorem recvS_inj (i j : Fin 10) (h : recvS i = recvS j) : i = j := by revert i j; decide
theorem sendS_ne_recvS (i j : Fin 10) : sendS i ≠ recvS j := by revert i j; decide

/-- What one copy moves, in the unit its semaphores count. -/
abbrev N : ℕ := (aM : Memref sig .tc .vmem S2x512 .f32).view.dmaCredit
theorem N_pos : 0 < N := View.dmaCredit_pos _ (by decide)

theorem slot_credit (j : Fin 10) : (slot j).view.dmaCredit = N := by
  unfold slot; split <;> rfl
theorem src_credit (j : Fin 10) : (src j).view.dmaCredit = N := by
  unfold src; split <;> rfl

end Cert.KernelIdeal.Own
-- ==== Proof.Contents.lean ====
/-
What every buffer holds: the pair a device computes from its rows, what it receives, the pair of its plane,
and the result, each named through the kernel's own pure expressions.
-/
module

public import proofs.«01_k».proof.Proof.Slots
public import Idealize.ShloMosaic.Lib.Rounds
public import proofs.«01_k».proof.Proof.Gen.KernelIdeal.Skeleton

@[expose] public section

noncomputable section

namespace Cert.KernelIdeal.Own

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The two rows of a pair and its index in a row. -/
abbrev row0 : Rect S2x512 := Rect.unit (s := S2x512) ![0, 0] S1x512.size inb_S2x512_S1x512_0_0
abbrev row1 : Rect S2x512 := Rect.unit (s := S2x512) ![1, 0] S1x512.size inb_S2x512_S1x512_1_0
abbrev rowIdx (i : S2x512.Idx) : S1x512.Idx := Fin.cons ⟨0, Nat.one_pos⟩ (fun b => i b.succ)

/-- The pair whose first row is `a` and second row `b`. -/
def rows {α : Type} (a b : S1x512.Idx → α) : S2x512.Idx → α := fun i => if (i 0).val = 0 then a (rowIdx i) else b (rowIdx i)

/-- The stack of `n` pairs. -/
def stackOf {α : Type} {n : ℕ} (g : Fin n → S2x512.Idx → α) : (Stack n).Idx → α := fun i => g (i 0) (fun b => i b.succ)

/-- The number the kernel gives its device. -/
abbrev devWord (c : Dev nD) : BitVec 32 := Scalar.remsi (Scalar.divsi (Dev.word c) 1#32) 32#32

variable (m : (ℓ : Loc nD τ sig) → Buf (Elt F) ℓ)

/-- The rows of the argument device `c` holds, as staged. -/
def xAt (c : Dev nD) : (cc0_stg0_0 : Ref sig .tc).ty.Contents (Elt F) :=
  (win0_0.blk (0 : Fin 1)).view.read (Elt F) (m ((c : Thread nD τ).loc main_arg0))

/-- The device's pair: the greatest value of each column of its rows, and where it first stands. -/
def acc1 (c : Dev nD) : S2x512.Idx → Elt F .f32 := rows (k0_pay3 (xAt m c)) (k0_pay4 (devWord c) (xAt m c))

/-- The pairs received from the seven others of the plane. -/
def recv1 (c : Dev nD) : (Stack 7).Idx → Elt F .f32 := stackOf fun s => acc1 m (peer c (s.castLE (by decide)))

/-- Row `r` of a pair, and row `r` of each pair of a stack, as the kernel loads them. -/
abbrev loadA0 (f : S2x512.Idx → Elt F .f32) : S1x512.Idx → Elt F .f32 := (aM : Memref sig .tc .vmem S2x512 .f32).view.readAt (Elt F) row0.toLoadRect f
abbrev loadA1 (f : S2x512.Idx → Elt F .f32) : S1x512.Idx → Elt F .f32 := (aM : Memref sig .tc .vmem S2x512 .f32).view.readAt (Elt F) row1.toLoadRect f
abbrev loadB0 (f : S2x512.Idx → Elt F .f32) : S1x512.Idx → Elt F .f32 := (bM : Memref sig .tc .vmem S2x512 .f32).view.readAt (Elt F) row0.toLoadRect f
abbrev loadB1 (f : S2x512.Idx → Elt F .f32) : S1x512.Idx → Elt F .f32 := (bM : Memref sig .tc .vmem S2x512 .f32).view.readAt (Elt F) row1.toLoadRect f
abbrev loadR0 (f : (Stack 7).Idx → Elt F .f32) : S7x1x512.Idx → Elt F .f32 :=
  (rM : Memref sig .tc .vmem S7x2x512 .f32).view.readAt (Elt F) (Rect.unit (s := S7x2x512) ![0, 0, 0] S7x1x512.size inb_S7x2x512_S7x1x512_0_0_0).toLoadRect f
abbrev loadR1 (f : (Stack 7).Idx → Elt F .f32) : S7x1x512.Idx → Elt F .f32 :=
  (rM : Memref sig .tc .vmem S7x2x512 .f32).view.readAt (Elt F) (Rect.unit (s := S7x2x512) ![0, 1, 0] S7x1x512.size inb_S7x2x512_S7x1x512_0_1_0).toLoadRect f
abbrev loadZ0 (f : (Stack 3).Idx → Elt F .f32) : S3x1x512.Idx → Elt F .f32 :=
  (zM : Memref sig .tc .vmem S3x2x512 .f32).view.readAt (Elt F) (Rect.unit (s := S3x2x512) ![0, 0, 0] S3x1x512.size inb_S3x2x512_S3x1x512_0_0_0).toLoadRect f
abbrev loadZ1 (f : (Stack 3).Idx → Elt F .f32) : S3x1x512.Idx → Elt F .f32 :=
  (zM : Memref sig .tc .vmem S3x2x512 .f32).view.readAt (Elt F) (Rect.unit (s := S3x2x512) ![0, 1, 0] S3x1x512.size inb_S3x2x512_S3x1x512_0_1_0).toLoadRect f

/-- The pair of the device's plane. -/
def acc2 (c : Dev nD) : S2x512.Idx → Elt F .f32 :=
  rows (k0_pay7 (loadA0 (acc1 m c)) (loadR0 (recv1 m c)))
    (k0_pay8 (loadA0 (acc1 m c)) (loadR0 (recv1 m c)) (loadA1 (acc1 m c)) (loadR1 (recv1 m c)))

/-- The pairs received from the three other planes. -/
def recv2 (c : Dev nD) : (Stack 3).Idx → Elt F .f32 := stackOf fun s => acc2 m (peer c ⟨s.val + 7, by have := s.isLt; omega⟩)

/-- The result on device `c`. -/
def outAt (c : Dev nD) : S2x512.Idx → Elt F .f32 :=
  rows (k0_pay11 (loadB0 (acc2 m c)) (loadZ0 (recv2 m c)))
    (k0_pay12 (loadB0 (acc2 m c)) (loadZ0 (recv2 m c)) (loadB1 (acc2 m c)) (loadZ1 (recv2 m c)))

/-- What device `c` sends in exchange `j`. -/
def sentAt (c : Dev nD) (j : Fin 10) : S2x512.Idx → Elt F .f32 := if j.val < 7 then acc1 m c else acc2 m c

/-- The element of row 0, and of row 1, in a column. -/
theorem row0_emb (i : S2x512.Idx) (h : (i 0).val = 0) : row0.emb (rowIdx i) = i := by
  funext b
  apply Fin.ext
  rw [Rect.emb_apply]
  fin_cases b
  · exact h.symm
  · exact (Nat.zero_add _).trans (Nat.one_mul _)

theorem row1_emb (i : S2x512.Idx) (h : (i 0).val ≠ 0) : row1.emb (rowIdx i) = i := by
  have h2 : (i 0).val < 2 := (i 0).isLt
  funext b
  apply Fin.ext
  rw [Rect.emb_apply]
  fin_cases b
  · show 1 + 1 * 0 = (i 0).val
    omega
  · exact (Nat.zero_add _).trans (Nat.one_mul _)

theorem not_mem_row1 (i : S2x512.Idx) (h : (i 0).val = 0) : i ∉ (Finset.univ : Finset row1.shape.Idx).map row1.emb := by
  rw [Finset.mem_map]
  rintro ⟨x, -, hx⟩
  have := congrArg (fun i : S2x512.Idx => (i 0).val) hx
  simp only [Rect.emb_apply] at this
  have h1 : 1 + 1 * (x 0).val = (i 0).val := this
  omega

omit [FloatOps F] in
/-- Row 0 written, then row 1: the pair of the two rows, whatever stood there before. -/
theorem rows_written (M : Memref sig .tc .vmem S2x512 .f32) (f) (a b : S1x512.Idx → Elt F .f32) :
    M.view.read (Elt F) ((M.access row1).write (Elt F) ((M.access row0).write (Elt F) f a Finset.univ) b Finset.univ) = rows a b := by
  funext i
  by_cases h : (i 0).val = 0
  · refine (View.read_slice_write_of_not_mem row1 _ _ _ (not_mem_row1 i h)).trans ?_
    rw [← row0_emb i h, View.read_slice_write_emb row0 _ _ (Finset.mem_univ _), row0_emb i h, rows, if_pos h]
  · conv_lhs => rw [← row1_emb i h]
    rw [View.read_slice_write_emb row1 _ _ (Finset.mem_univ _), rows, if_neg h]

end Cert.KernelIdeal.Own
-- ==== Proof.Schedule.lean ====
/-
The rounds of the exchange: one round; a barrier cell with ten duties of one unit, a send or receive cell with
one duty of a copy's credit; what each payment hands over; what a device owes; the levels of the waits.
-/
module

public import proofs.«01_k».proof.Proof.Contents
public import Idealize.ShloMosaic.Lib.Rounds.Family
public import Idealize.ShloMosaic.Lib.Pipeline.Launch
public import Idealize.ShloMosaic.Lib.Transfers
public import Idealize.ShloMosaic.Lib.Pipeline.Kit

@[expose] public section

noncomputable section

namespace Cert.KernelIdeal.Own

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The ghost state: the pipeline's rounds and the exchange's, whose duties are named by exchanges. -/
abbrev UB : Type := URounds (GSem nD τ sig) (Fin 10)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ)

/-! ## Payloads -/

/-- The exchanges of the two phases, and the share of the sent buffer exchange `j` borrows. -/
def phase1 : Finset (Fin 10) := Finset.univ.filter fun j => j.val < 7
def phase2 : Finset (Fin 10) := Finset.univ.filter fun j => ¬ j.val < 7
def share (j : Fin 10) : PosShare TreeShare := if j.val < 7 then Transfers.dealOf fullShare phase1 j else Transfers.dealOf fullShare phase2 j

/-- The partner of exchange `j` lends its landing place for it, which it has not received into yet. -/
def barPay (c : Dev nD) (j : Fin 10) : sProp 𝕄 :=
  iprop((∃ X, owns (peer c j : Thread nD τ) (slot (back j)) fullShare X) ∗ reached ER (recvCell (peer c j) (back j)) 0)
/-- The landing place comes back with what the partner sent. -/
def recvPay (c : Dev nD) (j : Fin 10) : sProp 𝕄 := owns (c : Thread nD τ) (slot j) fullShare (sentAt m (peer c j) (back j))
/-- The share of the sent buffer comes back. -/
def sendPay (c : Dev nD) (j : Fin 10) : sProp 𝕄 := owns (c : Thread nD τ) (src j) (share j) (sentAt m c j)

/-- Which DMA semaphores complete sends, and the exchange a semaphore is of. -/
abbrev IsSend (q : DmaSem sig) : Prop := (2 ≤ q.val ∧ q.val < 9) ∨ (16 ≤ q.val ∧ q.val < 19)
def xchg (q : DmaSem sig) : Fin 10 :=
  ⟨(if q.val < 9 then q.val - 2 else if q.val < 16 then q.val - 9 else if q.val < 19 then q.val - 9 else q.val - 12) % 10, Nat.mod_lt _ (Nat.succ_pos 9)⟩

theorem xchg_sendS (j : Fin 10) : xchg (sendS j) = j := by revert j; decide
theorem xchg_recvS (j : Fin 10) : xchg (recvS j) = j := by revert j; decide
theorem isSend_sendS (j : Fin 10) : IsSend (sendS j) := by revert j; decide
theorem not_isSend_recvS (j : Fin 10) : ¬ IsSend (recvS j) := by revert j; decide
theorem sendS_ge (j : Fin 10) : 2 ≤ (sendS j).val := by revert j; decide
theorem recvS_ge (j : Fin 10) : 2 ≤ (recvS j).val := by revert j; decide

/-- The duties of round 0 of a semaphore, its unit, and what a payment hands over. -/
def dutiesOf (sm : SemLoc sig) : Finset (Fin 10) :=
  match sm with | .reg q => if q = barS then Finset.univ else ∅ | .dma q => if 2 ≤ q.val then {0} else ∅
def unitOf (sm : SemLoc sig) : ℕ := match sm with | .reg _ => 1 | .dma _ => N
def paidTo (c : Dev nD) (sm : SemLoc sig) (d : Fin 10) : sProp 𝕄 :=
  match sm with | .reg _ => barPay c d | .dma q => if IsSend q then sendPay m c (xchg q) else recvPay m c (xchg q)

/-- The schedule: round 0 only, on the TensorCores' cells. -/
def sch : Rounds.Schedule (GSem nD τ sig) (Fin 10) 𝕄 where
  duties g r := if r = 0 ∧ g.1.2 = .tc then dutiesOf g.2 else ∅
  unitless _ := False
  amount g _ _ := unitOf g.2
  payload g _ d := paidTo m g.1.1 g.2 d
  amount_pos g _ _ _ := by
    rcases g with ⟨_, _ | _⟩
    · exact Nat.one_pos
    · exact N_pos

omit [FloatOps F] in
instance barPay_storable (c : Dev nD) (j : Fin 10) : BI.Storable (upEmb : UEmb _ 𝕄) (barPay (F := F) c j) := by unfold barPay; infer_instance

instance sch_storable (g : GSem nD τ sig) (r : ℕ) (d : Fin 10) : BI.Storable (upEmb : UEmb _ 𝕄) ((sch (F := F) m).payload g r d) := by
  rcases g with ⟨⟨c, k⟩, q | q⟩
  · exact barPay_storable c d
  · show BI.Storable _ (if IsSend q then sendPay m c (xchg q) else recvPay m c (xchg q))
    unfold sendPay recvPay
    split <;> infer_instance

section Tables
variable (c : Dev nD) (j d : Fin 10)

theorem duties_bar : (sch (F := F) m).duties (barCell c) 0 = Finset.univ := by
  dsimp only [sch]; rw [if_pos ⟨rfl, rfl⟩]; exact if_pos (c := barS = barS) (e := ∅) rfl
theorem duties_send : (sch (F := F) m).duties (sendCell c j) 0 = {0} := by
  dsimp only [sch]; rw [if_pos ⟨rfl, rfl⟩]; exact if_pos (sendS_ge j)
theorem duties_recv : (sch (F := F) m).duties (recvCell c j) 0 = {0} := by
  dsimp only [sch]; rw [if_pos ⟨rfl, rfl⟩]; exact if_pos (recvS_ge j)
theorem duties_later (g : GSem nD τ sig) (r : ℕ) (hr : 1 ≤ r) : (sch (F := F) m).duties g r = ∅ := by
  dsimp only [sch]; exact if_neg fun h => by omega

theorem expect_bar : (sch (F := F) m).expect (barCell c) 0 = 10 := by
  unfold Schedule.expect Schedule.amountOf
  rw [duties_bar]; rfl
theorem expect_send : (sch (F := F) m).expect (sendCell c j) 0 = N := by
  unfold Schedule.expect Schedule.amountOf; rw [duties_send, Finset.sum_singleton]; rfl
theorem expect_recv : (sch (F := F) m).expect (recvCell c j) 0 = N := by
  unfold Schedule.expect Schedule.amountOf; rw [duties_recv, Finset.sum_singleton]; rfl

theorem payload_bar : (sch (F := F) m).payload (barCell c) 0 d = barPay c d := rfl
theorem payload_send : (sch (F := F) m).payload (sendCell c j) 0 d = sendPay m c j :=
  (if_pos (isSend_sendS j)).trans (by rw [xchg_sendS])
theorem payload_recv : (sch (F := F) m).payload (recvCell c j) 0 d = recvPay m c j :=
  (if_neg (not_isSend_recvS j)).trans (by rw [xchg_recvS])

/-- All a wait for the whole round takes. -/
theorem rest_bar : bigSep ((sch (F := F) m).duties (barCell c) 0 \ ∅) (fun d => (sch (F := F) m).payload (barCell c) 0 d) = bigSep Finset.univ fun j => barPay c j := by
  rw [Finset.sdiff_empty, duties_bar]; rfl
theorem rest_send : bigSep ((sch (F := F) m).duties (sendCell c j) 0 \ ∅) (fun d => (sch (F := F) m).payload (sendCell c j) 0 d) = sendPay m c j := by
  rw [Finset.sdiff_empty, duties_send, bigSep_singleton, payload_send]
theorem rest_recv : bigSep ((sch (F := F) m).duties (recvCell c j) 0 \ ∅) (fun d => (sch (F := F) m).payload (recvCell c j) 0 d) = recvPay m c j := by
  rw [Finset.sdiff_empty, duties_recv, bigSep_singleton, payload_recv]

end Tables

/-! ## What a device owes, and the levels -/

/-- The exchanges numbered from `a` to below `b`. -/
def seg (a b : ℕ) : Finset (Fin 10) := Finset.univ.filter fun j => a ≤ j.val ∧ j.val < b

theorem mem_seg {a b : ℕ} {j : Fin 10} : j ∈ seg a b ↔ a ≤ j.val ∧ j.val < b := by simp [seg]
theorem seg_cons (j : Fin 10) {b : ℕ} (h : j.val < b) : seg j.val b = insert j (seg (j.val + 1) b) := by
  ext i; rw [Finset.mem_insert, mem_seg, mem_seg, Fin.ext_iff]; omega
theorem seg_snoc {a : ℕ} (j : Fin 10) (h : a ≤ j.val) : seg a (j.val + 1) = insert j (seg a j.val) := by
  ext i; rw [Finset.mem_insert, mem_seg, mem_seg, Fin.ext_iff]; omega
theorem not_mem_cons (j : Fin 10) (b : ℕ) : j ∉ seg (j.val + 1) b := fun h => by have := (mem_seg.mp h).1; omega
theorem not_mem_snoc (a : ℕ) (j : Fin 10) : j ∉ seg a j.val := fun h => by have := (mem_seg.mp h).2; omega
theorem seg_self (a : ℕ) : seg a a = ∅ := by
  ext i; simp only [mem_seg, Finset.notMem_empty, iff_false]; omega
theorem seg_all : seg 0 10 = Finset.univ := by decide
theorem seg_phase1 : seg 0 7 = phase1 := by decide
theorem seg_phase2 : seg 7 10 = phase2 := by decide

/-- The signals still to give from number `k` on, and the copies. -/
def oweBar (c : Dev nD) (k : ℕ) : CellTallies nD τ sig Unit := ∑ j ∈ seg k 10, tallyAt (barCell (peer c j)) () 1
def oweRecv (c : Dev nD) (k : ℕ) : CellTallies nD τ sig Unit := ∑ j ∈ seg k 10, tallyAt (recvCell (peer c j) (back j)) () N

theorem oweBar_step (c : Dev nD) (j : Fin 10) : oweBar c j.val = oweBar c (j.val + 1) + tallyAt (barCell (peer c j)) () 1 := by
  unfold oweBar; rw [seg_cons j j.isLt, Finset.sum_insert (not_mem_cons j 10), add_comm]
theorem oweRecv_step (c : Dev nD) (j : Fin 10) : oweRecv c j.val = oweRecv c (j.val + 1) + tallyAt (recvCell (peer c j) (back j)) () N := by
  unfold oweRecv; rw [seg_cons j j.isLt, Finset.sum_insert (not_mem_cons j 10), add_comm]
theorem oweBar_end (c : Dev nD) : oweBar c 10 = 0 := by
  unfold oweBar; rw [seg_self, Finset.sum_empty]
theorem oweRecv_end (c : Dev nD) : oweRecv c 10 = 0 := by
  unfold oweRecv; rw [seg_self, Finset.sum_empty]

/-- A sum of single tallies is positive only at one of them. -/
theorem sum_tally_pos {S : Finset (Fin 10)} {G : Fin 10 → GSem nD τ sig} {n : ℕ} {g : GSem nD τ sig} {u : Unit}
    (h : 0 < (∑ j ∈ S, (tallyAt (G j) () n : CellTallies nD τ sig Unit)) g u) : ∃ j ∈ S, g = G j := by
  by_contra hn
  rw [not_exists] at hn
  rw [Finset.sum_apply, Finsupp.finset_sum_apply, Finset.sum_eq_zero] at h
  · exact Nat.lt_irrefl 0 h
  · intro j hj
    rw [tallyAt_apply, if_neg fun e => hn j ⟨hj, e.1⟩]

def L (g : GSem nD τ sig) : Finset Unit := if g.1.2 = .tc then {()} else ∅
/-- Staging and sends at 0, the barrier at 1, arrivals within the plane at 2, across planes at 3. -/
def level (sm : SemLoc sig) : ℕ :=
  match sm with | .reg _ => 1 | .dma q => if q.val < 9 then 0 else if q.val < 16 then 2 else if q.val < 19 then 0 else 3
def lv (g : GSem nD τ sig) (_ : Unit) : ℕ := level g.2

theorem L_of_ne (g : GSem nD τ sig) (h : g.1.2 ≠ .tc) : L g = ∅ := if_neg h
theorem L_tc (c : Dev nD) (sm : SemLoc sig) : L ((c : Thread nD τ), sm) = {()} := if_pos rfl
theorem level_recv (j : Fin 10) : level (.dma (recvS j)) = if j.val < 7 then 2 else 3 := by revert j; decide
theorem level_send (j : Fin 10) : level (.dma (sendS j)) = 0 := by revert j; decide

/-- A device may wait on a semaphore below every cell it still owes. -/
theorem mayWait (c : Dev nD) (sm : SemLoc sig) (kb kr : ℕ)
    (hb : ∀ j ∈ seg kb 10, level sm < 1) (hr : ∀ j ∈ seg kr 10, level sm < level (.dma (recvS (back j)))) :
    (levAts L lv : sProp 𝕄) ⊢ MayWait (c : Thread nD τ) sm () (oweBar c kb + oweRecv c kr) := by
  have hpos : ∀ {g : GSem nD τ sig} {u : Unit}, 0 < (oweBar c kb + oweRecv c kr) g u →
      (∃ j ∈ seg kb 10, g = barCell (peer c j)) ∨ ∃ j ∈ seg kr 10, g = recvCell (peer c j) (back j) := by
    intro g u h
    rw [Pi.add_apply, Finsupp.add_apply] at h
    rcases Nat.eq_zero_or_pos (oweBar c kb g u) with h0 | h0
    · rw [h0, Nat.zero_add] at h; exact .inr (sum_tally_pos h)
    · exact .inl (sum_tally_pos h0)
  refine MayOwe.of_cut (L := L) (lev := lv) (level sm) (fun p hp => by rw [Finset.mem_singleton.mp hp, L_tc]; exact Finset.mem_singleton_self _)
    (fun g u hg => ?_) (fun p hp => by rw [Finset.mem_singleton.mp hp]; exact Nat.le_refl _) (fun g u hg => ?_)
  · rcases hpos hg with ⟨j, -, rfl⟩ | ⟨j, -, rfl⟩ <;> exact Finset.mem_singleton_self _
  · rcases hpos hg with ⟨j, hj, rfl⟩ | ⟨j, hj, rfl⟩
    · exact hb j hj
    · exact hr j hj

end Cert.KernelIdeal.Own
-- ==== Proof.Steps.lean ====
/-
One lemma per kind of step of the exchange, for every device and every exchange: the signal, the wait for the
ten signals, the copy, the two waits of a copy; and what is held before and after each.
-/
module

public import proofs.«01_k».proof.Proof.Schedule

@[expose] public section

noncomputable section

namespace Cert.KernelIdeal.Own

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

abbrev 𝒱₀ : Variants := Variants.none

variable (m : (ℓ : Loc nD τ sig) → Buf (Elt F) ℓ)

/-! ## The cells and what is known of them -/

/-- The cells of one device: its barrier, and for every exchange its sending and its receiving end. -/
abbrev Ends : Type := Fin 10 ⊕ Fin 10
abbrev Cell : Type := Unit ⊕ Ends
def osem (e : Ends) : SemLoc sig := match e with | .inl j => .dma (sendS j) | .inr j => .dma (recvS j)
def csem (k : Cell) : SemLoc sig := match k with | .inl _ => .reg barS | .inr e => osem e
def kcell (p : Dev nD × Cell) : GSem nD τ sig := ((p.1 : Thread nD τ), csem p.2)

/-- The invariants of all cells, at names `K`, and that round 0 of each is reached. -/
def recs (K : Dev nD × Cell → ℕ) : sProp 𝕄 :=
  iprop((bigSep Finset.univ fun p => cellInv ER (sch m) (K p) (kcell p)) ∗ bigSep Finset.univ fun p => reached ER (kcell p) 0)

instance recs_persistent (K : Dev nD × Cell → ℕ) : BI.Persistent (recs m K) := by unfold recs; infer_instance

theorem inv_of (K : Dev nD × Cell → ℕ) (p : Dev nD × Cell) : recs m K ⊢ cellInv ER (sch m) (K p) (kcell p) := by
  unfold recs; iintro ⟨H, -⟩
  iapply (show (bigSep Finset.univ fun p => (cellInv ER (sch m) (K p) (kcell p) : sProp 𝕄)) ⊢ _ from bigSep_elim (Finset.mem_univ p)); iexact H
theorem reached_of (K : Dev nD × Cell → ℕ) (p : Dev nD × Cell) : recs m K ⊢ reached ER (kcell p) 0 := by
  unfold recs; iintro ⟨-, H⟩
  iapply (show (bigSep Finset.univ fun p => (reached ER (kcell p) 0 : sProp 𝕄)) ⊢ _ from bigSep_elim (Finset.mem_univ p)); iexact H

/-- A device owing `O`, whatever it has waited on. -/
def owing (c : Dev nD) (O : CellTallies nD τ sig Unit) : sProp 𝕄 := iprop(∃ W, owes (c : Thread nD τ) O W)

omit [FloatOps F] in
/-- The first member of a stretch of exchanges taken off, and the next one put on. -/
theorem take (Φ : Fin 10 → sProp 𝕄) (j : Fin 10) {b : ℕ} (h : j.val < b) : bigSep (seg j.val b) Φ = iprop(Φ j ∗ bigSep (seg (j.val + 1) b) Φ) := by
  rw [seg_cons j h]; exact bigSep_insert (not_mem_cons j b)
omit [FloatOps F] in
theorem put (Φ : Fin 10 → sProp 𝕄) {a : ℕ} (j : Fin 10) (h : a ≤ j.val) : bigSep (seg a (j.val + 1)) Φ = iprop(Φ j ∗ bigSep (seg a j.val) Φ) := by
  rw [seg_snoc j h]; exact bigSep_insert (not_mem_snoc a j)

/-! ## The signals -/

/-- Before signal `k`: the tokens of the duties still to pay and the landing places still to lend. -/
def signalling (c : Dev nD) (k : ℕ) : sProp 𝕄 :=
  iprop(owing c (oweBar c k + oweRecv c 0)
    ∗ bigSep (seg k 10) fun j => iprop(dutyTok ER (barCell (peer c j)) 0 (back j) ∗ ∃ X, owns (c : Thread nD τ) (slot j) fullShare X))

variable (K : Dev nD × Cell → ℕ) (c : Dev nD)

omit [FloatOps F] in
/-- What a device lends the partner of exchange `j`, seen from the device. -/
theorem lending (j : Fin 10) :
    iprop((∃ X, owns (c : Thread nD τ) (slot j) fullShare X) ∗ reached ER (recvCell c j) 0) = (barPay (peer c j) (back j) : sProp 𝕄) := by
  unfold barPay; rw [peer_back, back_back]

theorem signal_step (j : Fin 10) {d : Dev nD} (hd : d = peer c j) {q : Sem sig} (hq : q = barS) {n : ℕ} (hn : n = 1)
    {α : Type} {Q : α → sProp 𝕄} {k : PUnit → Prog (TpuEff nD τ sig (Elt F) Λ₀ .tc) α} :
    iprop(recs m K ∗ signalling c j.val)
      ⊢ iprop((signalling c (j.val + 1) -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (d : Thread nD τ) q n) k) Q) := by
  subst hd hq hn
  unfold signalling owing
  rw [take _ j j.isLt]
  iintro ⟨#HR, ⟨%W, HO⟩, ⟨Ht, Hs⟩, Hrest⟩ Hk
  iapply (Rounds.wp_signal 𝒱₀ ER (sch m) (c : Thread nD τ) none (dst := (peer c j : Thread nD τ)) (κ := K (peer c j, .inl ()))
      (d := back j) (k' := 1) (by rw [duties_bar]; exact Finset.mem_univ _) rfl () (O₀ := oweBar c j.val + oweRecv c 0) (oweBar c (j.val + 1) + oweRecv c 0)
      (by rw [oweBar_step]; exact add_right_comm _ _ _)) $$ [HO Ht Hs]
  · isplitr; · iapply (inv_of m K (peer c j, .inl ())); iexact HR
    isplitl [HO]; · iexact HO
    isplitl [Ht]; · iexact Ht
    isplitl [Hs]
    · iapply (Entails.of_eq ((lending c j).trans (payload_bar m (peer c j) (back j)).symm))
      isplitl [Hs]; · iexact Hs
      iapply (reached_of m K (c, .inr (.inr j))); iexact HR
    · iapply (reached_of m K (peer c j, .inl ())); iexact HR
  iintro HO
  iapply Hk
  isplitl [HO]
  · iexists W; iexact HO
  iexact Hrest

/-- The wait for the ten signals: every partner's landing place is lent. -/
theorem barrier_step {q : Sem sig} (hq : q = barS) {n : ℕ} (hn : n = 10)
    {α : Type} {Q : α → sProp 𝕄} {k : PUnit → Prog (TpuEff nD τ sig (Elt F) Λ₀ .tc) α} :
    iprop(recs m K ∗ levAts L lv ∗ signalling c 10 ∗ cred (tallyAt (barCell c) () 10) ∗ atPos ER (barCell c) 0 ∅ 0)
      ⊢ iprop((iprop(owing c (oweBar c 10 + oweRecv c 0) ∗ atPos ER (barCell c) 1 ∅ 0 ∗ bigSep Finset.univ fun j => barPay c j)
            -∗ wp frame (wpE (defs₀ (F := F)) 𝒱₀ (c : Thread nD τ) none) Set.univ (k ⟨⟩) Q)
          -∗ wp frame (wpE (defs₀ (F := F)) 𝒱₀ (c : Thread nD τ) none) Set.univ (.op (.semWait q n) k) Q) := by
  subst hq hn
  unfold signalling owing
  iintro ⟨#HR, #Hlev, ⟨⟨%W, HO⟩, -⟩, Hc, Ha⟩ Hk
  iapply (Rounds.wp_wait_rest_token 𝒱₀ ER (sch m) (c : Thread nD τ) none (κ := K (c, .inl ()))
      (wpE_semWait_eq 𝒱₀ (c : Thread nD τ) none Set.univ) (Set.mem_univ _) () (O := oweBar c 10 + oweRecv c 0) (W := W) (R := 0) (m := 0) (T := ∅)
      (by rw [expect_bar])) $$ [Hc HO Ha]
  · isplitr; · iapply (inv_of m K (c, .inl ())); iexact HR
    isplitl [Hc]; · iexact Hc
    isplitl [HO]; · iexact HO
    isplitr
    · iapply (mayWait c (.reg barS) 10 0 (fun j hj => by rw [seg_self] at hj; exact absurd hj (Finset.notMem_empty j))
        (fun j _ => by rw [level_recv]; split <;> decide)); iexact Hlev
    iexact Ha
  iintro ⟨HO, Ha, -, Hp⟩
  ihave Hp := (Entails.of_eq (rest_bar m c)) $$ Hp
  iapply Hk
  isplitl [HO]
  · iexists _; iexact HO
  isplitl [Ha]; · iexact Ha
  iexact Hp

/-! ## The copies -/

/-- Before copy `k` of the stretch from `a` to `b`: the sent buffer's shares, the partners' landing places and the
    tokens of the copies still to start; the credit of those started. -/
def copying (c : Dev nD) (k a b : ℕ) : sProp 𝕄 :=
  iprop(owing c (oweBar c 10 + oweRecv c k)
    ∗ (bigSep (seg k b) fun j => iprop(owns (c : Thread nD τ) (src j) (share j) (sentAt m c j) ∗ barPay c j
        ∗ dutyTok ER (sendCell c j) 0 0 ∗ dutyTok ER (recvCell (peer c j) (back j)) 0 0))
    ∗ bigSep (seg a k) fun j => cred (tallyAt (sendCell c j) () N))

theorem copy_step (j : Fin 10) {a b : ℕ} (ha : a ≤ j.val) (hb : j.val < b) {d : Dev nD} (hd : d = peer c j)
    {qs qr : DmaSem sig} (hqs : qs = sendS j) (hqr : qr = recvS (back j))
    {s : Memref sig .tc .vmem S2x512 .f32} (hs : s = src j)
    {t : Memref sig (Dev.tc d : Thread nD τ).2.kind .vmem S2x512 .f32} (ht : t = slot (back j))
    {hsc : t.view.ref.isScScratch = false} {hsrc : s.view.WordExact} {hdst : t.view.WordExact}
    {hsem : DmaTarget.Typed .vmem (.dma qr) (.remote (Dev.tc d : Thread nD τ) t (.dma qs) hsc)}
    {α : Type} {Q : α → sProp 𝕄} {k : PUnit → Prog (TpuEff nD τ sig (Elt F) Λ₀ .tc) α} :
    iprop(recs m K ∗ copying m c j.val a b)
      ⊢ iprop((copying m c (j.val + 1) a b -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma s (.remote (Dev.tc d : Thread nD τ) t (.dma qs) hsc) (.dma qr) hsrc hdst hsem) k) Q) := by
  subst hd hqs hqr hs
  subst ht
  unfold copying owing barPay
  rw [take _ j hb, put _ j ha]
  unfold owns
  iintro ⟨#HR, ⟨%W, HO⟩, ⟨⟨⟨%fs, %hfs, Hs⟩, ⟨⟨%X, %fd, %hfd, Hd⟩, -⟩, Ht₁, Ht₂⟩, Hrest⟩, Hcr⟩ Hk
  iapply (Rounds.wp_send_pointsTo 𝒱₀ ER (sch m) (c : Thread nD τ) none (κ₁ := K (c, .inr (.inl j))) (κ₂ := K (peer c j, .inr (.inr (back j))))
    (c' := (peer c j : Thread nD τ)) (src := src j) (dst := slot (back j)) (sS := .dma (sendS j)) (sem := .dma (recvS (back j))) (r₁ := 0) (r₂ := 0) (d₁ := 0) (d₂ := 0) (fd := fd) (fs := fs) (q := share j)
    (by rw [duties_send]; exact Finset.mem_singleton_self _) (by rw [duties_recv]; exact Finset.mem_singleton_self _)
    () () N (slot_credit (back j)) rfl rfl (O₀ := oweBar c 10 + oweRecv c j.val) (oweBar c 10 + oweRecv c (j.val + 1)) (by rw [oweRecv_step]; exact (add_assoc _ _ _).symm) (W := W)
    (by rw [payload_send]; unfold sendPay; rw [← hfs]; exact owns_intro _ _ _ _)
    (by
      rw [payload_recv]; unfold recvPay; rw [peer_back, back_back, ← hfs]
      refine (owns_intro _ _ _ _).trans (Entails.of_eq ?_)
      rw [View.read_write_univ])) $$ [HO Hs Hd Ht₁ Ht₂]
  · isplitr; · iapply (inv_of m K (c, .inr (.inl j))); iexact HR
    isplitr; · iapply (inv_of m K (peer c j, .inr (.inr (back j)))); iexact HR
    isplitl [Hs]; · iexact Hs
    isplitl [Hd]; · iexact Hd
    isplitl [HO]; · iexact HO
    isplitl [Ht₁]; · iexact Ht₁
    isplitr; · iapply (reached_of m K (c, .inr (.inl j))); iexact HR
    isplitl [Ht₂]; · iexact Ht₂
    iapply (reached_of m K (peer c j, .inr (.inr (back j)))); iexact HR
  iintro ⟨Hc, HO⟩
  iapply Hk
  isplitl [HO]
  · iexists W; iexact HO
  isplitl [Hrest]; · iexact Hrest
  isplitl [Hc]; · iexact Hc
  iexact Hcr

/-! ## The waits -/

/-- Before the waits of exchange `k` of the stretch from `a` to `b`: credits and places of the ends still to wait on;
    what came back from those waited on. -/
def waiting (c : Dev nD) (k a b : ℕ) : sProp 𝕄 :=
  iprop(owing c (oweBar c 10 + oweRecv c b)
    ∗ (bigSep (seg k b) fun j => cred (tallyAt (sendCell c j) () N))
    ∗ (bigSep (seg k b) fun j => iprop(cred (tallyAt (recvCell c (back j)) () N)
        ∗ atPos ER (sendCell c j) 0 ∅ 0 ∗ atPos ER (recvCell c (back j)) 0 ∅ 0))
    ∗ bigSep (seg a k) fun j => iprop(sendPay m c j ∗ recvPay m c (back j)
        ∗ atPos ER (sendCell c j) 1 ∅ 0 ∗ atPos ER (recvCell c (back j)) 1 ∅ 0))

theorem wait_step (j : Fin 10) {a b : ℕ} (ha : a ≤ j.val) (hb : j.val < b) (hab : ∀ i ∈ seg b 10, j.val < 7 ∧ ¬ i.val < 7)
    {qs qr : DmaSem sig} (hqs : qs = sendS j) (hqr : qr = recvS (back j))
    {s₁ t₁ s₂ t₂ : Memref sig .tc .vmem S2x512 .f32} (h₁ : t₁ = src j) (h₂ : t₂ = slot (back j))
    {w₁ : s₁.view.WordExact} {w₂ : t₁.view.WordExact} {w₃ : s₂.view.WordExact} {w₄ : t₂.view.WordExact}
    {α : Type} {Q : α → sProp 𝕄} {k : PUnit → Prog (TpuEff nD τ sig (Elt F) Λ₀ .tc) α} :
    iprop(recs m K ∗ levAts L lv ∗ waiting m c j.val a b)
      ⊢ iprop((waiting m c (j.val + 1) a b -∗ wp frame (wpE (defs₀ (F := F)) 𝒱₀ (c : Thread nD τ) none) Set.univ (k ⟨⟩) Q)
          -∗ wp frame (wpE (defs₀ (F := F)) 𝒱₀ (c : Thread nD τ) none) Set.univ
              (.op (.waitDma2 qs s₁ t₁ w₁ w₂) fun _ => .op (.waitDma2 qr s₂ t₂ w₃ w₄) k) Q) := by
  subst hqs hqr h₁ h₂
  unfold waiting owing
  rw [take _ j hb, take _ j hb, put _ j ha]
  iintro ⟨#HR, #Hlev, ⟨%W, HO⟩, ⟨Hc, Hcs⟩, ⟨⟨Hr, Ha₁, Ha₂⟩, Hrest⟩, Hdone⟩ Hk
  have hnone : ∀ i ∈ seg 10 10, level (.dma (sendS j)) < 1 := fun i hi => by rw [seg_self] at hi; exact absurd hi (Finset.notMem_empty i)
  iapply (Rounds.wp_wait_rest_token 𝒱₀ ER (sch m) (c : Thread nD τ) none (κ := K (c, .inr (.inl j)))
      (wpE_waitDma2_eq 𝒱₀ (c : Thread nD τ) none Set.univ) (Set.mem_univ _) () (O := oweBar c 10 + oweRecv c b) (W := W) (R := 0) (m := 0) (T := ∅)
      (by rw [Nat.zero_add, src_credit, expect_send])) $$ [Hc HO Ha₁]
  · isplitr; · iapply (inv_of m K (c, .inr (.inl j))); iexact HR
    isplitl [Hc]; · rw [src_credit]; iexact Hc
    isplitl [HO]; · iexact HO
    isplitr
    · iapply (mayWait c (.dma (sendS j)) 10 b (fun i hi => by rw [seg_self] at hi; exact absurd hi (Finset.notMem_empty i))
        (fun i _ => by rw [level_send, level_recv]; split <;> decide)); iexact Hlev
    iexact Ha₁
  iintro ⟨HO, Ha₁, -, Hp₁⟩
  ihave Hp₁ := (Entails.of_eq (rest_send m c j)) $$ Hp₁
  iapply (Rounds.wp_wait_rest_token 𝒱₀ ER (sch m) (c : Thread nD τ) none (κ := K (c, .inr (.inr (back j))))
      (wpE_waitDma2_eq 𝒱₀ (c : Thread nD τ) none Set.univ) (Set.mem_univ _) () (O := oweBar c 10 + oweRecv c b)
      (W := insert (SemLoc.dma (sendS j), ()) W) (R := 0) (m := 0) (T := ∅)
      (by rw [Nat.zero_add, slot_credit, expect_recv])) $$ [Hr HO Ha₂]
  · isplitr; · iapply (inv_of m K (c, .inr (.inr (back j)))); iexact HR
    isplitl [Hr]; · rw [slot_credit]; iexact Hr
    isplitl [HO]; · iexact HO
    isplitr
    · iapply (mayWait c (.dma (recvS (back j))) 10 b (fun i hi => by rw [seg_self] at hi; exact absurd hi (Finset.notMem_empty i))
        (fun i hi => by
          rw [level_recv, level_recv, if_pos ((back_lt j).mpr (hab i hi).1), if_neg fun h => (hab i hi).2 ((back_lt i).mp h)]; decide)); iexact Hlev
    iexact Ha₂
  iintro ⟨HO, Ha₂, -, Hp₂⟩
  ihave Hp₂ := (Entails.of_eq (rest_recv m c (back j))) $$ Hp₂
  iapply Hk
  isplitl [HO]
  · iexists _; iexact HO
  isplitl [Hcs]; · iexact Hcs
  isplitl [Hrest]; · iexact Hrest
  isplitr [Hdone]
  · isplitl [Hp₁]; · iexact Hp₁
    isplitl [Hp₂]; · iexact Hp₂
    isplitl [Ha₁] <;> iassumption
  iexact Hdone

end Cert.KernelIdeal.Own
-- ==== Proof.Exchange.lean ====
/-
Entering and leaving an exchange: a buffer dealt to the copies that send from it, the landing buffers dealt to
the partners that write into them, and both whole again when the copies are done.
-/
module

public import proofs.«01_k».proof.Proof.Steps

@[expose] public section

noncomputable section

namespace Cert.KernelIdeal.Own

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (c : Dev nD)

/-! ## The exchanges of a phase, by the landing place -/

/-- Exchange `s` of the first phase, and of the second. -/
def in1 : Fin 7 ↪ Fin 10 := ⟨fun s => s.castLE (by decide), fun a b h => Fin.castLE_injective _ h⟩
def in2 : Fin 3 ↪ Fin 10 :=
  ⟨fun s => ⟨s.val + 7, by have := s.isLt; omega⟩, fun a b h => Fin.ext (by have := congrArg Fin.val h; simp only at this; omega)⟩
def backs : Fin 10 ↪ Fin 10 := ⟨back, fun a b h => by rw [← back_back a, h, back_back]⟩

theorem phase1_in : phase1 = (Finset.univ : Finset (Fin 7)).map in1 := by decide
theorem phase2_in : phase2 = (Finset.univ : Finset (Fin 3)).map in2 := by decide
theorem phase1_back : phase1 = phase1.map backs := by decide
theorem phase2_back : phase2 = phase2.map backs := by decide
theorem phases_disjoint : Disjoint phase1 phase2 := by decide
theorem phases_union : (Finset.univ : Finset (Fin 10)) = phase1 ∪ phase2 := by decide
theorem of_phase1 {j : Fin 10} (h : j ∈ phase1) : j.val < 7 := (Finset.mem_filter.mp h).2
theorem of_phase2 {j : Fin 10} (h : j ∈ phase2) : ¬ j.val < 7 := (Finset.mem_filter.mp h).2

omit [FloatOps F] in
/-- All exchanges are those of the first phase and those of the second. -/
theorem by_phase (Φ : Fin 10 → sProp 𝕄) : bigSep Finset.univ Φ = iprop(bigSep phase1 Φ ∗ bigSep phase2 Φ) := by
  rw [phases_union]; exact bigSep_union phases_disjoint

omit [FloatOps F] in
theorem back1 (Φ : Fin 10 → sProp 𝕄) : bigSep phase1 Φ = bigSep phase1 fun j => Φ (back j) := by
  conv_lhs => rw [phase1_back]
  rw [bigSep_map]; rfl
omit [FloatOps F] in
theorem back2 (Φ : Fin 10 → sProp 𝕄) : bigSep phase2 Φ = bigSep phase2 fun j => Φ (back j) := by
  conv_lhs => rw [phase2_back]
  rw [bigSep_map]; rfl

/-! ## The sent buffers -/

omit [FloatOps F] in
/-- A whole buffer is its shares, one for each member of a set. -/
theorem dealt (b : Ref sig .tc) (S : Finset (Fin 10)) (hS : S.Nonempty) (X : b.ty.Contents (Elt F)) :
    (((c : Thread nD τ).loc b) ↦{fullShare} X : sProp 𝕄)
      = bigSep S fun j => owns (c : Thread nD τ) (Memref.whole b) (Transfers.dealOf fullShare S j) X := by
  rw [bigSep_congr fun j _ => owns_whole (c : Thread nD τ) b _ X]
  exact Transfers.pointsTo_deal S hS fullShare

/-- The device's pair is the shares its seven copies send from, and the plane's pair those its three send from. -/
theorem sent1 : (((c : Thread nD τ).loc cc0_scratch0) ↦{fullShare} acc1 m c : sProp 𝕄) = bigSep phase1 fun j => sendPay m c j := by
  rw [dealt c cc0_scratch0 phase1 ⟨0, by decide⟩ (acc1 m c)]
  refine bigSep_congr fun j hj => ?_
  unfold sendPay src share sentAt
  rw [if_pos (of_phase1 hj), if_pos (of_phase1 hj), if_pos (of_phase1 hj)]
theorem sent2 : (((c : Thread nD τ).loc cc0_scratch1) ↦{fullShare} acc2 m c : sProp 𝕄) = bigSep phase2 fun j => sendPay m c j := by
  rw [dealt c cc0_scratch1 phase2 ⟨7, by decide⟩ (acc2 m c)]
  refine bigSep_congr fun j hj => ?_
  unfold sendPay src share sentAt
  rw [if_neg (of_phase2 hj), if_neg (of_phase2 hj), if_neg (of_phase2 hj)]

/-! ## The landing buffers -/

theorem slot_in1 (s : Fin 7) : slot (in1 s) = place rM s := dif_pos s.isLt
theorem slot_in2 (s : Fin 3) : slot (in2 s) = place zM s := by
  have h : ¬ (in2 s).val < 7 := by show ¬ s.val + 7 < 7; omega
  exact (dif_neg h).trans (congrArg (place zM) (Fin.ext (Nat.add_sub_cancel s.val 7)))

/-- A landing buffer is its places. -/
theorem landing1 (X : (Stack 7).Idx → Elt F .f32) : (((c : Thread nD τ).loc cc0_scratch2) ↦{fullShare} X : sProp 𝕄)
    = bigSep Finset.univ fun s : Fin 7 => owns (c : Thread nD τ) (slot (in1 s)) fullShare (fun x => X (stackIdx s x)) := by
  rw [bigSep_congr fun s _ => by rw [slot_in1]]
  exact (owns_whole (c : Thread nD τ) cc0_scratch2 fullShare X).symm.trans (owns_places c rM fullShare X)
theorem landing2 (X : (Stack 3).Idx → Elt F .f32) : (((c : Thread nD τ).loc cc0_scratch3) ↦{fullShare} X : sProp 𝕄)
    = bigSep Finset.univ fun s : Fin 3 => owns (c : Thread nD τ) (slot (in2 s)) fullShare (fun x => X (stackIdx s x)) := by
  rw [bigSep_congr fun s _ => by rw [slot_in2]]
  exact (owns_whole (c : Thread nD τ) cc0_scratch3 fullShare X).symm.trans (owns_places c zM fullShare X)

/-- The two landing buffers, whatever they hold, are ten places to lend. -/
theorem to_lend (X : (Stack 7).Idx → Elt F .f32) (Y : (Stack 3).Idx → Elt F .f32) :
    iprop((((c : Thread nD τ).loc cc0_scratch2) ↦{fullShare} X) ∗ (((c : Thread nD τ).loc cc0_scratch3) ↦{fullShare} Y))
      ⊢ (bigSep Finset.univ fun j => iprop(∃ X, owns (c : Thread nD τ) (slot j) fullShare X) : sProp 𝕄) := by
  have h (j : Fin 10) (Z : S2x512.Idx → Elt F .f32) :
      owns (c : Thread nD τ) (slot j) fullShare Z ⊢ (iprop(∃ X, owns (c : Thread nD τ) (slot j) fullShare X) : sProp 𝕄) := by
    iintro H; iexists _; iexact H
  rw [by_phase, phase1_in, phase2_in, bigSep_map, bigSep_map, landing1, landing2]
  exact BIClass.sep_mono (bigSep_mono fun s _ => h _ _) (bigSep_mono fun s _ => h _ _)

/-- The first landing buffer with every pair of the plane in it, and the second with every other plane's. -/
theorem landed1 : (bigSep phase1 fun j => recvPay m c j) = (((c : Thread nD τ).loc cc0_scratch2) ↦{fullShare} recv1 m c : sProp 𝕄) := by
  rw [phase1_in, bigSep_map, landing1]
  refine bigSep_congr fun s _ => ?_
  unfold recvPay sentAt
  rw [if_pos ((back_lt _).mpr s.isLt)]
  rfl
theorem landed2 : (bigSep phase2 fun j => recvPay m c j) = (((c : Thread nD τ).loc cc0_scratch3) ↦{fullShare} recv2 m c : sProp 𝕄) := by
  rw [phase2_in, bigSep_map, landing2]
  refine bigSep_congr fun s _ => ?_
  unfold recvPay sentAt
  rw [if_neg fun h => by have h' : s.val + 7 < 7 := (back_lt _).mp h; omega]
  rfl

/-! ## A phase of the exchange -/

/-- The ghost state of one copy: the tokens of its two duties, the credit of the arrival it answers, and the places of
    the two ends waited on. -/
def kit (j : Fin 10) : sProp 𝕄 :=
  iprop((dutyTok ER (sendCell c j) 0 0 ∗ dutyTok ER (recvCell (peer c j) (back j)) 0 0)
    ∗ cred (tallyAt (recvCell c (back j)) () N) ∗ atPos ER (sendCell c j) 0 ∅ 0 ∗ atPos ER (recvCell c (back j)) 0 ∅ 0)
/-- What of it is left at the end. -/
def used (j : Fin 10) : sProp 𝕄 := iprop(atPos ER (sendCell c j) 1 ∅ 0 ∗ atPos ER (recvCell c (back j)) 1 ∅ 0)
/-- What the waits still need of it after the copies. -/
def ends (j : Fin 10) : sProp 𝕄 :=
  iprop(cred (tallyAt (recvCell c (back j)) () N) ∗ atPos ER (sendCell c j) 0 ∅ 0 ∗ atPos ER (recvCell c (back j)) 0 ∅ 0)

/-- A phase begins: the sent buffer dealt, the partners' places at hand. -/
theorem begin_copies (a b : ℕ) :
    iprop(owing c (oweBar c 10 + oweRecv c a) ∗ (bigSep (seg a b) fun j => sendPay m c j) ∗ (bigSep (seg a b) fun j => barPay c j)
        ∗ bigSep (seg a b) fun j => kit c j)
      ⊢ (iprop(copying m c a a b ∗ bigSep (seg a b) fun j => ends c j) : sProp 𝕄) := by
  unfold copying kit ends
  simp only [bigSep_sep', seg_self, bigSep_empty]
  unfold sendPay
  iintro ⟨HO, Hs, Hb, ⟨Ht₁, Ht₂⟩, Hc, Ha₁, Ha₂⟩
  isplitr [Hc Ha₁ Ha₂]
  · isplitl [HO]; · iexact HO
    isplitl
    · isplitl [Hs]; · iexact Hs
      isplitl [Hb]; · iexact Hb
      isplitl [Ht₁] <;> iassumption
    · iempintro
  isplitl [Hc]; · iexact Hc
  isplitl [Ha₁] <;> iassumption

/-- The copies are started: what the waits need. -/
theorem begin_waits (a b : ℕ) :
    iprop(copying m c b a b ∗ bigSep (seg a b) fun j => ends c j) ⊢ (waiting m c a a b : sProp 𝕄) := by
  unfold copying waiting ends
  simp only [seg_self, bigSep_empty]
  iintro ⟨⟨HO, -, Hc⟩, He⟩
  isplitl [HO]; · iexact HO
  isplitl [Hc]; · iexact Hc
  isplitl [He]; · iexact He
  iempintro

/-- The waits are over: the payloads are back. -/
theorem end_waits (a b : ℕ) :
    waiting m c b a b ⊢ (iprop(owing c (oweBar c 10 + oweRecv c b) ∗ (bigSep (seg a b) fun j => sendPay m c j)
      ∗ (bigSep (seg a b) fun j => recvPay m c (back j)) ∗ bigSep (seg a b) fun j => used c j) : sProp 𝕄) := by
  unfold waiting used
  simp only [bigSep_sep', seg_self, bigSep_empty]
  iintro ⟨HO, -, -, Hs, Hr, Ha₁, Ha₂⟩
  isplitl [HO]; · iexact HO
  isplitl [Hs]; · iexact Hs
  isplitl [Hr]; · iexact Hr
  isplitl [Ha₁] <;> iassumption

/-- The first phase ends with the device's own pair and all others of its plane, -/
theorem end_phase1 :
    waiting m c 7 0 7 ⊢ (iprop(owing c (oweBar c 10 + oweRecv c 7) ∗ (((c : Thread nD τ).loc cc0_scratch0) ↦{fullShare} acc1 m c)
      ∗ (((c : Thread nD τ).loc cc0_scratch2) ↦{fullShare} recv1 m c) ∗ bigSep phase1 fun j => used c j) : sProp 𝕄) := by
  refine (end_waits m c 0 7).trans ?_
  rw [sent1, ← landed1, back1 fun j => recvPay m c j, seg_phase1]
/-- the second with its plane's pair and all other planes'. -/
theorem end_phase2 :
    waiting m c 10 7 10 ⊢ (iprop(owing c (oweBar c 10 + oweRecv c 10) ∗ (((c : Thread nD τ).loc cc0_scratch1) ↦{fullShare} acc2 m c)
      ∗ (((c : Thread nD τ).loc cc0_scratch3) ↦{fullShare} recv2 m c) ∗ bigSep phase2 fun j => used c j) : sProp 𝕄) := by
  refine (end_waits m c 7 10).trans ?_
  rw [sent2, ← landed2, back2 fun j => recvPay m c j, seg_phase2]

/-! ## The cells closed -/

omit [FloatOps F] in
/-- The positions of all copies' ends, listed by the ends. -/
theorem used_all : iprop((bigSep phase1 fun j => used c j) ∗ bigSep phase2 fun j => used c j)
    = (bigSep Finset.univ fun e : Ends => atPos ER ((c : Thread nD τ), osem e) 1 ∅ 0 : sProp 𝕄) := by
  rw [bigSep_univ_sum, ← by_phase]
  unfold used
  rw [bigSep_sep']
  congr 1
  rw [by_phase, by_phase, back1 fun b => (atPos ER ((c : Thread nD τ), osem (.inr b)) 1 ∅ 0 : sProp 𝕄),
    back2 fun b => (atPos ER ((c : Thread nD τ), osem (.inr b)) 1 ∅ 0 : sProp 𝕄)]
  rfl

/-- All cells of the device close: every counter is zero again. -/
theorem close_all (K : Dev nD × Cell → ℕ) :
    iprop(recs m K ∗ atPos ER (barCell c) 1 ∅ 0 ∗ (bigSep phase1 fun j => used c j) ∗ bigSep phase2 fun j => used c j)
      ⊢ |={Set.univ}=> (iprop(semVal (barCell c) 0 ∗ bigSep Finset.univ fun e : Ends => semVal ((c : Thread nD τ), osem e) 0) : sProp 𝕄) := by
  rw [used_all]
  have h : iprop(recs m K ∗ bigSep Finset.univ fun k : Cell => atPos ER (kcell (c, k)) 1 ∅ 0)
      ⊢ (bigSep Finset.univ fun k : Cell => iprop(cellInv ER (sch m) (K (c, k)) (kcell (c, k)) ∗ atPos ER (kcell (c, k)) 1 ∅ 0) : sProp 𝕄) :=
    (sep_mono_left (bigSep_of_persistent Finset.univ (recs m K))).trans (by
      rw [← bigSep_sep']; exact bigSep_mono fun k _ => sep_mono_left (inv_of m K (c, k)))
  have hc := cells_close ER (sch m) (Finset.univ : Finset Cell) (fun k => kcell (c, k)) (fun k => K (c, k)) (Es := Set.univ)
    (fun k _ => Set.mem_univ _) (fun k _ h => h) (fun _ => 1) (fun k _ => duties_later m (kcell (c, k)))
  have hs (Φ : Cell → sProp 𝕄) : bigSep Finset.univ Φ = iprop(Φ (.inl ()) ∗ bigSep Finset.univ fun e => Φ (.inr e)) := by
    rw [bigSep_univ_sum, bigSep_univ_of_subsingleton ()]; rfl
  rw [hs] at h
  have := h.trans hc
  rw [hs] at this
  exact this

end Cert.KernelIdeal.Own
-- ==== Proof.Body.lean ====
/-
The kernel on one device: its program run step by step, from the buffers and the ghost state it is launched
with to the result and the closed cells.
-/
module

public import proofs.«01_k».proof.Proof.Exchange
public import proofs.«01_k».proof.Proof.Gen.KernelIdeal.Launch

@[expose] public section

noncomputable section

namespace Cert.KernelIdeal.Own

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × Cell → ℕ) (c : Dev nD)

/-- A pair written row by row, each row loaded before: the buffer holds the two rows. -/
theorem pair_step (M : Memref sig .tc .vmem S2x512 .f32) (X : S2x512.Idx → Elt F .f32) {a b : S1x512.Idx → Elt F .f32}
    (Y : S2x512.Idx → Elt F .f32) (hY : Y = rows a b)
    {l₀ : M.view.LoadsAt row0.toLoadRect} {l₁ : M.view.LoadsAt row1.toLoadRect} {h₀ h₀' h₁ h₁'}
    {α : Type} {Q : α → sProp 𝕄} {k : PUnit → Prog (TpuEff nD τ sig (Elt F) Λ₀ .tc) α} :
    owns (c : Thread nD τ) M fullShare X
      ⊢ iprop((owns (c : Thread nD τ) M fullShare Y -∗ wp frame (wpE (defs₀ (F := F)) 𝒱₀ (c : Thread nD τ) none) Set.univ (k ⟨⟩) Q)
          -∗ wp frame (wpE (defs₀ (F := F)) 𝒱₀ (c : Thread nD τ) none) Set.univ
              (.op (.load M row0.toLoadRect l₀) fun _ => .op (.store M row0 a Finset.univ h₀ h₀') fun _ =>
                .op (.load M row1.toLoadRect l₁) fun _ => .op (.store M row1 b Finset.univ h₁ h₁') k) Q) := by
  subst hY
  unfold owns
  iintro ⟨%f, -, H⟩ Hk
  iapply (wp_load 𝒱₀ (c : Thread nD τ) none Set.univ (m := M) (View.setOn_subset_set _ _)) $$ H; iintro H
  iapply (wp_store 𝒱₀ (c : Thread nD τ) none Set.univ (m := M) (r := row0) (Mk := Finset.univ)
    ((View.setOn_subset_set _ _).trans (View.set_slice_subset _ _))) $$ H; iintro H
  iapply (wp_load 𝒱₀ (c : Thread nD τ) none Set.univ (m := M) (View.setOn_subset_set _ _)) $$ H; iintro H
  iapply (wp_store 𝒱₀ (c : Thread nD τ) none Set.univ (m := M) (r := row1) (Mk := Finset.univ)
    ((View.setOn_subset_set _ _).trans (View.set_slice_subset _ _))) $$ H; iintro H
  iapply Hk
  iexists _
  isplitr
  · ipureintro; exact rows_written M f a b
  iexact H

/-- What the body starts from, apart from the staged argument and the result's buffer. -/
def entry (c : Dev nD) : sProp 𝕄 :=
  iprop(levAts L lv ∗ (bigSep Finset.univ fun j => dutyTok ER (barCell (peer c j)) 0 (back j))
    ∗ (cred (tallyAt (barCell c) () 10) ∗ atPos ER (barCell c) 0 ∅ 0) ∗ bigSep Finset.univ fun j => kit c j)

/-- The four buffers of the exchange, whatever they hold. -/
def buffers (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f)
    ∗ (∃ f : Buf (Elt F) ((c : Thread nD τ).loc cc0_scratch3), ((c : Thread nD τ).loc cc0_scratch3) ↦{fullShare} f))

/-- What it ends with, apart from them: the buffers, and every semaphore at zero. -/
def leave (c : Dev nD) : sProp 𝕄 :=
  iprop(buffers c ∗ semVal (barCell c) 0 ∗ bigSep Finset.univ fun e : Ends => semVal ((c : Thread nD τ), osem e) 0)

theorem zero2 : (![0, 0] : Fin 2 → Nat) = fun _ => 0 := by funext a; fin_cases a <;> rfl

set_option maxHeartbeats 4000000 in
set_option maxRecDepth 100000 in
theorem body_run (Kt : PUnit → sProp 𝕄) (g : S2x512.Idx → Elt F .f32) :
    iprop((recs m K ∗ entry c ∗ buffers c ∗ owing c (oweBar c 0 + oweRecv c 0)
          ∗ (((c : Thread nD τ).loc cc0_stg0_0) ↦{fullShare} xAt m c) ∗ (((c : Thread nD τ).loc cc0_stg1_0) ↦{fullShare} g))
        ∗ ((leave c ∗ owing c 0 ∗ (((c : Thread nD τ).loc cc0_stg0_0) ↦{fullShare} xAt m c) ∗ (((c : Thread nD τ).loc cc0_stg1_0) ↦{fullShare} outAt m c)) -∗ Kt ⟨⟩))
      ⊢ wp frame (wpE (defs₀ (F := F)) 𝒱₀ (c : Thread nD τ) none) Set.univ
          (cc0_body (Memref.whole cc0_stg0_0) (Memref.isWhole_whole _) (Memref.whole cc0_stg1_0) (Memref.isWhole_whole _)
            (Memref.whole cc0_scratch0) (Memref.isWhole_whole _) (Memref.whole cc0_scratch1) (Memref.isWhole_whole _)
            (Memref.whole cc0_scratch2) (Memref.isWhole_whole _) (Memref.whole cc0_scratch3) (Memref.isWhole_whole _)
            cc0_scratch4 cc0_scratch5 cc0_scratch6 cc0_scratch7) Kt := by
  simp only [cc0_body_eq_skeleton]; unfold cc0_body_skel
  simp only [k0_part12_eq_skeleton]; unfold k0_part12_skel
  simp only [k0_part1_eq_skeleton, k0_part2_eq_skeleton, k0_part3_eq_skeleton, k0_part4_eq_skeleton, k0_part5_eq_skeleton, k0_part6_eq_skeleton,
    k0_part7_eq_skeleton, k0_part8_eq_skeleton, k0_part9_eq_skeleton, k0_part10_eq_skeleton, k0_part11_eq_skeleton]
  unfold k0_part1_skel k0_part2_skel k0_part3_skel k0_part4_skel k0_part5_skel k0_part6_skel k0_part7_skel k0_part8_skel k0_part9_skel
    k0_part10_skel k0_part11_skel
  simp only [semSignalWord, semWaitWord, Prog.lift, Prog.bind_op, Prog.bind_ret, Prog.pure_eq_ret, wp_deviceId]
  unfold entry buffers
  iintro ⟨⟨#HR, ⟨#Hlev, Htb, ⟨Hcb, Hab⟩, Hkit⟩, ⟨⟨%f₀, Hacc⟩, ⟨%f₁, Hacc2⟩, ⟨%f₂, Hr₁⟩, ⟨%f₃, Hr₂⟩⟩, HO, Hx, Hout⟩, Hk⟩
  -- the ten signals
  ihave Hl := (to_lend c f₂ f₃) $$ [Hr₁ Hr₂]
  · isplitl [Hr₁] <;> iassumption
  ihave H : signalling c 0 $$ [HO Htb Hl]
  · unfold signalling; rw [bigSep_sep', seg_all]
    isplitl [HO]; · iexact HO
    isplitl [Htb] <;> iassumption
  iapply (signal_step m K c 0 (signalDev_eq c 0) rfl rfl) $$ [H]; · (isplitr; · iexact HR); iexact H
  iintro H
  iapply (signal_step m K c 1 (signalDev_eq c 1) rfl rfl) $$ [H]; · (isplitr; · iexact HR); iexact H
  iintro H
  iapply (signal_step m K c 2 (signalDev_eq c 2) rfl rfl) $$ [H]; · (isplitr; · iexact HR); iexact H
  iintro H
  iapply (signal_step m K c 3 (signalDev_eq c 3) rfl rfl) $$ [H]; · (isplitr; · iexact HR); iexact H
  iintro H
  iapply (signal_step m K c 4 (signalDev_eq c 4) rfl rfl) $$ [H]; · (isplitr; · iexact HR); iexact H
  iintro H
  iapply (signal_step m K c 5 (signalDev_eq c 5) rfl rfl) $$ [H]; · (isplitr; · iexact HR); iexact H
  iintro H
  iapply (signal_step m K c 6 (signalDev_eq c 6) rfl rfl) $$ [H]; · (isplitr; · iexact HR); iexact H
  iintro H
  iapply (signal_step m K c 7 (signalDev_eq c 7) rfl rfl) $$ [H]; · (isplitr; · iexact HR); iexact H
  iintro H
  iapply (signal_step m K c 8 (signalDev_eq c 8) rfl rfl) $$ [H]; · (isplitr; · iexact HR); iexact H
  iintro H
  iapply (signal_step m K c 9 (signalDev_eq c 9) rfl rfl) $$ [H]; · (isplitr; · iexact HR); iexact H
  iintro H
  -- the device's own pair
  iapply (wp_load 𝒱₀ (c : Thread nD τ) none Set.univ (m := xM) (Finset.subset_univ _)) $$ Hx; iintro Hx
  rw [show (xM : Memref sig .tc .vmem S1024x512 .f32).view.readAt (Elt F) (Rect.unit (s := S1024x512) ![0, 0] S1024x512.size inb_S1024x512_S1024x512_0_0).toLoadRect (xAt m c)
    = xAt m c from Memref.readAt_unit_zero (Elt F) cc0_stg0_0 zero2 _ _]
  ihave Hacc := (Entails.of_eq (owns_whole (c : Thread nD τ) cc0_scratch0 fullShare f₀).symm) $$ Hacc
  iapply (pair_step c aM f₀ (acc1 m c) rfl) $$ Hacc
  iintro Hacc
  ihave Hacc := (Entails.of_eq ((owns_whole (c : Thread nD τ) cc0_scratch0 fullShare (acc1 m c)).trans (sent1 m c))) $$ Hacc
  -- every partner is there
  iapply (barrier_step m K c rfl rfl) $$ [H Hcb Hab]
  · isplitr; · iexact HR
    isplitr; · iexact Hlev
    isplitl [H]; · iexact H
    isplitl [Hcb] <;> iassumption
  iintro ⟨HO, Hab, Hb⟩
  ihave ⟨Hb₁, Hb₂⟩ := (Entails.of_eq (by_phase fun j => barPay (F := F) c j)) $$ Hb
  ihave ⟨Hk₁, Hk₂⟩ := (Entails.of_eq (by_phase fun j => kit (F := F) c j)) $$ Hkit
  -- the exchange within the plane
  ihave ⟨H, He⟩ := (begin_copies m c 0 7) $$ [HO Hacc Hb₁ Hk₁]
  · rw [seg_phase1]
    isplitl [HO]; · iexact HO
    isplitl [Hacc]; · iexact Hacc
    isplitl [Hb₁] <;> iassumption
  iapply (copy_step m K c 0 (a := 0) (b := 7) (by decide) (by decide) (copyDev_eq c 0) rfl rfl rfl rfl) $$ [H]; · (isplitr; · iexact HR); iexact H
  iintro H
  iapply (copy_step m K c 1 (a := 0) (b := 7) (by decide) (by decide) (copyDev_eq c 1) rfl rfl rfl rfl) $$ [H]; · (isplitr; · iexact HR); iexact H
  iintro H
  iapply (copy_step m K c 2 (a := 0) (b := 7) (by decide) (by decide) (copyDev_eq c 2) rfl rfl rfl rfl) $$ [H]; · (isplitr; · iexact HR); iexact H
  iintro H
  iapply (copy_step m K c 3 (a := 0) (b := 7) (by decide) (by decide) (copyDev_eq c 3) rfl rfl rfl rfl) $$ [H]; · (isplitr; · iexact HR); iexact H
  iintro H
  iapply (copy_step m K c 4 (a := 0) (b := 7) (by decide) (by decide) (copyDev_eq c 4) rfl rfl rfl rfl) $$ [H]; · (isplitr; · iexact HR); iexact H
  iintro H
  iapply (copy_step m K c 5 (a := 0) (b := 7) (by decide) (by decide) (copyDev_eq c 5) rfl rfl rfl rfl) $$ [H]; · (isplitr; · iexact HR); iexact H
  iintro H
  iapply (copy_step m K c 6 (a := 0) (b := 7) (by decide) (by decide) (copyDev_eq c 6) rfl rfl rfl rfl) $$ [H]; · (isplitr; · iexact HR); iexact H
  iintro H
  ihave H := (begin_waits m c 0 7) $$ [H He]
  · isplitl [H]; · iexact H
    iexact He
  iapply (wait_step m K c 0 (a := 0) (b := 7) (by decide) (by decide) (by decide) rfl rfl rfl rfl) $$ [H]
  · isplitr; · iexact HR
    isplitr; · iexact Hlev
    iexact H
  iintro H
  iapply (wait_step m K c 1 (a := 0) (b := 7) (by decide) (by decide) (by decide) rfl rfl rfl rfl) $$ [H]
  · isplitr; · iexact HR
    isplitr; · iexact Hlev
    iexact H
  iintro H
  iapply (wait_step m K c 2 (a := 0) (b := 7) (by decide) (by decide) (by decide) rfl rfl rfl rfl) $$ [H]
  · isplitr; · iexact HR
    isplitr; · iexact Hlev
    iexact H
  iintro H
  iapply (wait_step m K c 3 (a := 0) (b := 7) (by decide) (by decide) (by decide) rfl rfl rfl rfl) $$ [H]
  · isplitr; · iexact HR
    isplitr; · iexact Hlev
    iexact H
  iintro H
  iapply (wait_step m K c 4 (a := 0) (b := 7) (by decide) (by decide) (by decide) rfl rfl rfl rfl) $$ [H]
  · isplitr; · iexact HR
    isplitr; · iexact Hlev
    iexact H
  iintro H
  iapply (wait_step m K c 5 (a := 0) (b := 7) (by decide) (by decide) (by decide) rfl rfl rfl rfl) $$ [H]
  · isplitr; · iexact HR
    isplitr; · iexact Hlev
    iexact H
  iintro H
  iapply (wait_step m K c 6 (a := 0) (b := 7) (by decide) (by decide) (by decide) rfl rfl rfl rfl) $$ [H]
  · isplitr; · iexact HR
    isplitr; · iexact Hlev
    iexact H
  iintro H
  ihave ⟨HO, Hacc, Hr₁, Hu₁⟩ := (end_phase1 m c) $$ [H]
  · iexact H
  -- the plane's pair
  iapply (wp_load 𝒱₀ (c : Thread nD τ) none Set.univ (m := aM) (Finset.subset_univ _)) $$ Hacc; iintro Hacc
  iapply (wp_load 𝒱₀ (c : Thread nD τ) none Set.univ (m := rM) (Finset.subset_univ _)) $$ Hr₁; iintro Hr₁
  iapply (wp_load 𝒱₀ (c : Thread nD τ) none Set.univ (m := aM) (Finset.subset_univ _)) $$ Hacc; iintro Hacc
  iapply (wp_load 𝒱₀ (c : Thread nD τ) none Set.univ (m := rM) (Finset.subset_univ _)) $$ Hr₁; iintro Hr₁
  ihave Hacc2 := (Entails.of_eq (owns_whole (c : Thread nD τ) cc0_scratch1 fullShare f₁).symm) $$ Hacc2
  iapply (pair_step c bM f₁ (acc2 m c) rfl) $$ Hacc2
  iintro Hacc2
  ihave Hacc2 := (Entails.of_eq ((owns_whole (c : Thread nD τ) cc0_scratch1 fullShare (acc2 m c)).trans (sent2 m c))) $$ Hacc2
  -- the exchange across the planes
  ihave ⟨H, He⟩ := (begin_copies m c 7 10) $$ [HO Hacc2 Hb₂ Hk₂]
  · rw [seg_phase2]
    isplitl [HO]; · iexact HO
    isplitl [Hacc2]; · iexact Hacc2
    isplitl [Hb₂] <;> iassumption
  iapply (copy_step m K c 7 (a := 7) (b := 10) (by decide) (by decide) (copyDev_eq c 7) rfl rfl rfl rfl) $$ [H]; · (isplitr; · iexact HR); iexact H
  iintro H
  iapply (copy_step m K c 8 (a := 7) (b := 10) (by decide) (by decide) (copyDev_eq c 8) rfl rfl rfl rfl) $$ [H]; · (isplitr; · iexact HR); iexact H
  iintro H
  iapply (copy_step m K c 9 (a := 7) (b := 10) (by decide) (by decide) (copyDev_eq c 9) rfl rfl rfl rfl) $$ [H]; · (isplitr; · iexact HR); iexact H
  iintro H
  ihave H := (begin_waits m c 7 10) $$ [H He]
  · isplitl [H]; · iexact H
    iexact He
  iapply (wait_step m K c 7 (a := 7) (b := 10) (by decide) (by decide) (by decide) rfl rfl rfl rfl) $$ [H]
  · isplitr; · iexact HR
    isplitr; · iexact Hlev
    iexact H
  iintro H
  iapply (wait_step m K c 8 (a := 7) (b := 10) (by decide) (by decide) (by decide) rfl rfl rfl rfl) $$ [H]
  · isplitr; · iexact HR
    isplitr; · iexact Hlev
    iexact H
  iintro H
  iapply (wait_step m K c 9 (a := 7) (b := 10) (by decide) (by decide) (by decide) rfl rfl rfl rfl) $$ [H]
  · isplitr; · iexact HR
    isplitr; · iexact Hlev
    iexact H
  iintro H
  ihave ⟨HO, Hacc2, Hr₂, Hu₂⟩ := (end_phase2 m c) $$ [H]
  · iexact H
  -- the result
  iapply (wp_load 𝒱₀ (c : Thread nD τ) none Set.univ (m := bM) (Finset.subset_univ _)) $$ Hacc2; iintro Hacc2
  iapply (wp_load 𝒱₀ (c : Thread nD τ) none Set.univ (m := zM) (Finset.subset_univ _)) $$ Hr₂; iintro Hr₂
  iapply (wp_load 𝒱₀ (c : Thread nD τ) none Set.univ (m := bM) (Finset.subset_univ _)) $$ Hacc2; iintro Hacc2
  iapply (wp_load 𝒱₀ (c : Thread nD τ) none Set.univ (m := zM) (Finset.subset_univ _)) $$ Hr₂; iintro Hr₂
  ihave Hout := (Entails.of_eq (owns_whole (c : Thread nD τ) cc0_stg1_0 fullShare g).symm) $$ Hout
  iapply (pair_step c oM g (outAt m c) rfl) $$ Hout
  iintro Hout
  ihave Hout := (Entails.of_eq (owns_whole (c : Thread nD τ) cc0_stg1_0 fullShare (outAt m c))) $$ Hout
  -- every cell closes
  imod (close_all m c K) $$ [Hab Hu₁ Hu₂] with ⟨Hzb, Hze⟩
  · isplitr; · iexact HR
    isplitl [Hab]; · iexact Hab
    isplitl [Hu₁] <;> iassumption
  rw [wp_ret]; imodintro
  iapply Hk
  unfold leave buffers
  isplitr [HO Hx Hout]
  · isplitl [Hacc Hacc2 Hr₁ Hr₂]
    · isplitl [Hacc]; · (iexists _; iexact Hacc)
      isplitl [Hacc2]; · (iexists _; iexact Hacc2)
      isplitl [Hr₁]; · (iexists _; iexact Hr₁)
      iexists _; iexact Hr₂
    isplitl [Hzb] <;> iassumption
  isplitl [HO]; · rw [oweBar_end, oweRecv_end, add_zero]; iexact HO
  isplitl [Hx] <;> iassumption

end Cert.KernelIdeal.Own
-- ==== Proof.Launch.lean ====
/-
The launch. Every device's cells get their invariants at once, the tokens go to the devices that pay with them,
and the body's run becomes the run of the whole program: on every device the result array ends at the computed
contents, the argument is unchanged and every semaphore is at zero.
-/
module

public import proofs.«01_k».proof.Proof.Body
public import Idealize.ShloMosaic.Lib.Quiescent
public import Idealize.ShloMosaic.Lib.Pipeline.CollectiveSegs

@[expose] public section

noncomputable section

namespace Cert.KernelIdeal.Own

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (c : Dev nD)

/-! ## The cells and the tokens -/

theorem ends_facts : Pipeline.OwnSemFacts cfg0.spec osem := by decide

theorem osem_inj : Function.Injective osem := by
  rintro (i | i) (j | j) h
  · exact congrArg _ (sendS_inj _ _ (SemLoc.dma.inj h))
  · exact absurd (SemLoc.dma.inj h) (sendS_ne_recvS _ _)
  · exact absurd (SemLoc.dma.inj h).symm (sendS_ne_recvS _ _)
  · exact congrArg _ (recvS_inj _ _ (SemLoc.dma.inj h))

theorem csem_inj : Function.Injective csem := by
  rintro (i | i) (j | j) h
  · rfl
  · rcases j with j | j <;> cases h
  · rcases i with i | i <;> cases h
  · exact congrArg _ (osem_inj h)

/-- Distinct cells of the exchange are distinct cells of the machine. -/
theorem kcell_inj : Function.Injective kcell := by
  rintro ⟨a, i⟩ ⟨b, j⟩ h
  have hd : a = b := congrArg (fun g : GSem nD τ sig => g.1.1) h
  have hs : i = j := csem_inj (congrArg Prod.snd h)
  rw [hd, hs]

/-- A duty of a device's cells: one of its barrier's ten, or the one of an end. -/
abbrev Duty : Type := Fin 10 ⊕ Ends
def dutyAt (p : Dev nD × Duty) : GSem nD τ sig × ℕ × Fin 10 :=
  match p.2 with | .inl d => (barCell p.1, 0, d) | .inr e => (((p.1 : Thread nD τ), osem e), 0, 0)

theorem dutyAt_inj : Function.Injective dutyAt := by
  rintro ⟨a, i⟩ ⟨b, j⟩ h
  have hd : a = b := by
    have := congrArg (fun x : GSem nD τ sig × ℕ × Fin 10 => x.1.1.1) h
    rcases i with i | i <;> rcases j with j | j <;> exact this
  have hs : i = j := by
    have h1 := congrArg (fun x : GSem nD τ sig × ℕ × Fin 10 => x.1.2) h
    rcases i with i | i <;> rcases j with j | j
    · exact congrArg _ (congrArg (fun x : GSem nD τ sig × ℕ × Fin 10 => x.2.2) h)
    · rcases j with j | j <;> cases h1
    · rcases i with i | i <;> cases h1
    · exact congrArg _ (osem_inj h1)
  rw [hd, hs]

def allCells : Finset (GSem nD τ sig) := Finset.univ.map ⟨kcell, kcell_inj⟩
def allDuties : Finset (GSem nD τ sig × ℕ × Fin 10) := Finset.univ.map ⟨dutyAt, dutyAt_inj⟩

/-- The ghost element the launch starts from. -/
def ghost₀ : UU := (initOf (Pipeline.cells cfgs cellOf_inj) (Pipeline.launchToks cfgs cellOf_inj), initOf allCells allDuties)

/-- The tokens of a device's own cells, and those of the duties it pays. -/
def minted : sProp 𝕄 :=
  iprop((bigSep Finset.univ fun d : Fin 10 => dutyTok ER (barCell c) 0 d) ∗ (bigSep Finset.univ fun j : Fin 10 => dutyTok ER (sendCell c j) 0 0)
    ∗ bigSep Finset.univ fun j : Fin 10 => dutyTok ER (recvCell c j) 0 0)
def paying : sProp 𝕄 :=
  iprop((bigSep Finset.univ fun j : Fin 10 => dutyTok ER (barCell (peer c j)) 0 (back j))
    ∗ (bigSep Finset.univ fun j : Fin 10 => dutyTok ER (sendCell c j) 0 0)
    ∗ bigSep Finset.univ fun j : Fin 10 => dutyTok ER (recvCell (peer c j) (back j)) 0 0)

/-- A device's positions at the start of round 0. -/
def placed : sProp 𝕄 := bigSep Finset.univ fun k : Cell => atPos ER (kcell (c, k)) 0 ∅ 0

omit [FloatOps F] in
/-- Something of every device and exchange, listed from the other side. -/
theorem all_across (Φ : Dev nD → Fin 10 → sProp 𝕄) :
    (bigSep Finset.univ fun c => bigSep Finset.univ fun j => Φ c j) = bigSep Finset.univ fun c => bigSep Finset.univ fun j => Φ (peer c j) (back j) := by
  rw [← bigSep_univ_prod fun p : Dev nD × Fin 10 => Φ p.1 p.2, bigSep_univ_equiv across fun p : Dev nD × Fin 10 => Φ p.1 p.2,
    ← bigSep_univ_prod fun p : Dev nD × Fin 10 => Φ (peer p.1 p.2) (back p.2)]
  rfl

omit [FloatOps F] in
/-- The tokens go from the devices whose cells they are of to the devices that pay with them. -/
theorem minted_paying : (bigSep Finset.univ fun c => minted c) = (bigSep Finset.univ fun c => paying c : sProp 𝕄) := by
  unfold minted paying
  simp only [bigSep_sep']
  rw [all_across fun c d => dutyTok ER (barCell c) 0 d, all_across fun c j => dutyTok ER (recvCell c j) 0 0]

/-- What the ghost element gives a device. -/
def given : sProp 𝕄 :=
  iprop((bigSep Finset.univ fun k : Cell => roundState ER (sch m) (kcell (c, k)) 0)
    ∗ (bigSep Finset.univ fun k : Cell => reached ER (kcell (c, k)) 0) ∗ placed c ∗ minted c)

theorem give : BI.own (ER (initOf allCells allDuties)) ⊢ (|==> bigSep Finset.univ (given m) : sProp 𝕄) := by
  have hc (Φ : GSem nD τ sig → sProp 𝕄) : bigSep allCells Φ = bigSep Finset.univ fun c => bigSep Finset.univ fun k => Φ (kcell (c, k)) := by
    unfold allCells; rw [bigSep_map, bigSep_univ_prod]; rfl
  have ht : bigSep allDuties (fun x => (dutyTok ER x.1 x.2.1 x.2.2 : sProp 𝕄)) = bigSep Finset.univ fun c => minted c := by
    unfold allDuties minted; rw [bigSep_map, bigSep_univ_prod]
    exact bigSep_congr fun c _ => by rw [bigSep_univ_sum, bigSep_univ_sum]; rfl
  iintro H
  imod (Rounds.fund ER (sch m) allCells allDuties) $$ H with ⟨Hs, Hr, Ha, Ht⟩
  imodintro
  ihave Hs := (Entails.of_eq (hc fun g => roundState ER (sch m) g 0)) $$ Hs
  ihave Hr := (Entails.of_eq (hc fun g => reached ER g 0)) $$ Hr
  ihave Ha := (Entails.of_eq (hc fun g => atPos ER g 0 ∅ 0)) $$ Ha
  ihave Ht := (Entails.of_eq ht) $$ Ht
  unfold given placed
  simp only [bigSep_sep']
  isplitl [Hs]; · iexact Hs
  isplitl [Hr]; · iexact Hr
  isplitl [Ha] <;> iassumption

/-! ## The invariants, all devices' at once -/

omit [FloatOps F] in
theorem unscoped_bar : (unscopedSems0 c : sProp 𝕄) = semVal (barCell c) 0 := by
  unfold unscopedSems0; rw [bigSep_eq_bigSepL_of_eq [SemLoc.reg barS] (by decide) (by decide)]; rfl

omit [FloatOps F] in
/-- A device's counters are its barrier's and its ends'. -/
theorem counters : (bigSep Finset.univ fun k : Cell => semVal (kcell (c, k)) 0)
    = (iprop(semVal (barCell c) 0 ∗ Pipeline.ownSems0 osem c) : sProp 𝕄) := by
  rw [bigSep_univ_sum, bigSep_univ_of_subsingleton ()]; rfl

/-- A device's counters and round states become its cells' invariants. -/
theorem alloc : iprop((bigSep Finset.univ fun k : Cell => semVal (kcell (c, k)) 0) ∗ bigSep Finset.univ fun k : Cell => roundState ER (sch m) (kcell (c, k)) 0)
    ⊢ (|={Set.univ}=> bigSep Finset.univ fun k : Cell => iprop(∃ κ : ℕ, cellInv ER (sch m) κ (kcell (c, k))) : sProp 𝕄) := by
  rw [← bigSep_sep']
  exact (bigSep_mono fun k _ => (Rounds.body_intro ER (sch m) (kcell (c, k))).trans inv_alloc).trans (bigSep_fupd _ _)

/-- What a device starts from: what is known of all cells, its positions and its tokens. -/
def armed : sProp 𝕄 := iprop((∃ K, recs m K) ∗ placed c ∗ paying c)

theorem alloc_all :
    (bigSep Finset.univ fun c => iprop(Pipeline.ownSems0 (Ix := Unit) (Name := ℕ) (U := UU) (Lvl := ℕ) (Val := Elt F) (τ := τ) osem c
        ∗ unscopedSems0 c ∗ given m c) : sProp 𝕄)
      ⊢ |={Set.univ}=> bigSep Finset.univ (armed m) := by
  have hone (c : Dev nD) : iprop(Pipeline.ownSems0 (Ix := Unit) (Name := ℕ) (U := UU) (Lvl := ℕ) (Val := Elt F) (τ := τ) osem c ∗ unscopedSems0 c ∗ given m c)
      ⊢ (|={Set.univ}=> iprop((bigSep Finset.univ fun k : Cell => iprop(∃ κ : ℕ, cellInv ER (sch m) κ (kcell (c, k))))
        ∗ (bigSep Finset.univ fun k : Cell => reached ER (kcell (c, k)) 0) ∗ placed c ∗ minted c) : sProp 𝕄) := by
    unfold given
    iintro ⟨He, Hb, Hs, Hr, Ha, Ht⟩
    ihave Hv : (bigSep Finset.univ fun k : Cell => semVal (kcell (c, k)) 0 : sProp 𝕄) $$ [He Hb]
    · iapply (Entails.of_eq (counters c).symm)
      ihave Hb := (Entails.of_eq (unscoped_bar c)) $$ Hb
      isplitl [Hb] <;> iassumption
    imod (alloc m c) $$ [Hv Hs] with Hi
    · isplitl [Hv] <;> iassumption
    imodintro
    isplitl [Hi]; · iexact Hi
    isplitl [Hr]; · iexact Hr
    isplitl [Ha] <;> iassumption
  have hall : (bigSep Finset.univ fun c : Dev nD => iprop((bigSep Finset.univ fun k : Cell => iprop(∃ κ : ℕ, cellInv ER (sch m) κ (kcell (c, k))))
        ∗ (bigSep Finset.univ fun k : Cell => reached ER (kcell (c, k)) 0) ∗ placed c ∗ minted c) : sProp 𝕄)
      ⊢ bigSep Finset.univ (armed m) := by
    rw [bigSep_sep', bigSep_sep', bigSep_sep', minted_paying,
      ← bigSep_univ_prod (fun p : Dev nD × Cell => iprop(∃ κ : ℕ, cellInv ER (sch m) κ (kcell p))),
      ← bigSep_univ_prod (fun p : Dev nD × Cell => (reached ER (kcell p) 0 : sProp 𝕄))]
    unfold armed
    rw [bigSep_sep', bigSep_sep']
    iintro ⟨HI, #HR, Ha, Ht⟩
    ihave HK := (BI.bigSep_exists_pi Finset.univ (fun (p : Dev nD × Cell) (κ : ℕ) => (cellInv ER (sch m) κ (kcell p) : sProp 𝕄))) $$ HI
    icases HK with ⟨%K, #HI⟩
    isplitr
    · iapply (BI.bigSep_of_persistent Finset.univ (iprop(∃ K, recs m K) : sProp 𝕄))
      iexists K; unfold recs
      isplitl; · iexact HI
      iexact HR
    isplitl [Ha] <;> iassumption
  exact ((bigSep_mono fun c _ => hone c).trans (bigSep_fupd _ _)).trans (BI.fupd_mono hall)

/-! ## The credits of the launch -/

/-- What a device owes at launch: a signal and a copy for every exchange. -/
def owed₀ : CellTallies nD τ sig Unit := oweBar c 0 + oweRecv c 0

theorem peer_of_back (j : Fin 10) : peer (peer c (back j)) j = c := by
  have h := peer_back c (back j)
  rwa [back_back] at h

theorem ten_units : (∑ j ∈ seg 0 10, (tallyAt (barCell c) () 1 : CellTallies nD τ sig Unit)) = tallyAt (barCell c) () 10 := by
  funext g; refine Finsupp.ext fun u => ?_
  rw [Finset.sum_apply, Finsupp.finset_sum_apply, seg_all]
  simp only [tallyAt_apply]
  split <;> simp

omit [FloatOps F] in
/-- A device is due ten signals and, in every exchange, a copy. -/
theorem credits : (Pipeline.launchCred owed₀ c : sProp 𝕄)
    ⊢ iprop(cred (tallyAt (barCell c) () 10) ∗ bigSep Finset.univ fun j : Fin 10 => cred (tallyAt (recvCell c (back j)) () N)) := by
  rw [show (owed₀ : Dev nD → CellTallies nD τ sig Unit) = fun d => oweBar d 0 + oweRecv d 0 from rfl, Pipeline.launchCred_add]
  unfold oweBar oweRecv
  rw [Pipeline.launchCred_sum, Pipeline.launchCred_sum, ← ten_units, Pipeline.cred_finsetSum, seg_all]
  exact BIClass.sep_mono
    (bigSep_mono fun j _ => Pipeline.launchCred_tallyAt (.reg barS) (fun d => peer d j) (fun d => peer d (back j)) (fun d => peer_of_back d j) (fun d => peer_back d j) () 1 c)
    (bigSep_mono fun j _ => Pipeline.launchCred_tallyAt (.dma (recvS (back j))) (fun d => peer d j) (fun d => peer d (back j)) (fun d => peer_of_back d j) (fun d => peer_back d j) () N c)

omit [FloatOps F] in
/-- Positions, tokens and credits are what the body starts from. -/
theorem to_entry : iprop(levAts L lv ∗ placed c ∗ paying c ∗ Pipeline.launchCred owed₀ c) ⊢ (entry c : sProp 𝕄) := by
  have hb : (bigSep Finset.univ fun j : Fin 10 => atPos ER (recvCell c j) 0 ∅ 0)
      = (bigSep Finset.univ fun j : Fin 10 => atPos ER (recvCell c (back j)) 0 ∅ 0 : sProp 𝕄) := by
    rw [by_phase, by_phase, back1 fun j => (atPos ER (recvCell c j) 0 ∅ 0 : sProp 𝕄), back2 fun j => (atPos ER (recvCell c j) 0 ∅ 0 : sProp 𝕄)]
  have hp : (placed c : sProp 𝕄) = iprop(atPos ER (barCell c) 0 ∅ 0 ∗ (bigSep Finset.univ fun j : Fin 10 => atPos ER (sendCell c j) 0 ∅ 0)
      ∗ bigSep Finset.univ fun j : Fin 10 => atPos ER (recvCell c (back j)) 0 ∅ 0) := by
    unfold placed
    rw [bigSep_univ_sum, bigSep_univ_of_subsingleton (), bigSep_univ_sum, ← hb]; rfl
  rw [hp]
  unfold entry paying kit
  simp only [bigSep_sep']
  iintro ⟨Hl, ⟨Hab, Has, Har⟩, ⟨Htb, Hts, Htr⟩, Hc⟩
  ihave ⟨Hcb, Hcr⟩ := (credits c) $$ Hc
  isplitl [Hl]; · iexact Hl
  isplitl [Htb]; · iexact Htb
  isplitl [Hcb Hab]
  · isplitl [Hcb] <;> iassumption
  isplitl [Hts Htr]
  · isplitl [Hts] <;> iassumption
  isplitl [Hcr]; · iexact Hcr
  isplitl [Has] <;> iassumption

/-! ## The pipeline's data -/

/-- What a device holds when its body starts, and when it ends. -/
def before₀ : sProp 𝕄 := iprop(((∃ K, recs m K) ∗ entry c) ∗ buffers c)

/-- The one grid point: the staged argument kept, the result's buffer at the computed contents. -/
def dats (_ : Fin 1) (c : Dev nD) : Dat τ (Elt F) Unit ℕ UU ℕ cfg0 c where
  A w := m ((cfg0.win w).arr.view.loc (c : Thread nD τ))
  after w _ := match w with
    | ⟨0, _⟩ => xAt m c
    | ⟨1, _⟩ => outAt m c
  Φ t := match t with
    | ⟨0, _⟩ => before₀ m c
    | ⟨_ + 1, _⟩ => leave c
  q _ := fullShare
  owed t := match t with
    | ⟨0, _⟩ => owed₀ c
    | ⟨_ + 1, _⟩ => 0

omit [FloatOps F] in
/-- A whole buffer held at contents equal to `X`. -/
theorem owns_staged (b : Ref sig .tc) (X : b.ty.Contents (Elt F)) :
    (owns (c : Thread nD τ) (Memref.whole b) fullShare X : sProp 𝕄) = (((c : Thread nD τ).loc b) ↦{fullShare} X) :=
  owns_whole (c : Thread nD τ) b fullShare X

theorem staged (d) : (dats (F := F) m 0 c).before (0 : Fin 2) t0_0 d = xAt m c := by
  unfold Dat.before
  rw [if_pos (show (cfg0.win (0 : Fin 2)).fetch t0_0 = true from rfl)]
  rfl

/-- What the pipeline asks of the body before and after. -/
def asked : sProp 𝕄 :=
  iprop(before₀ m c ∗ (dats m 0 c).owesAt () t0_0.castSucc
    ∗ (∃ d, ((c : Thread nD τ).loc cc0_stg0_0) ↦{fullShare} ((dats m 0 c).before (0 : Fin 2) t0_0 d))
    ∗ (∃ d, ((c : Thread nD τ).loc cc0_stg1_0) ↦{fullShare} ((dats m 0 c).before (1 : Fin 2) t0_0 d)))
def answered : sProp 𝕄 :=
  iprop(leave c ∗ (dats m 0 c).owesAt () t0_0.succ
    ∗ (((c : Thread nD τ).loc cc0_stg0_0) ↦{fullShare} xAt m c) ∗ (((c : Thread nD τ).loc cc0_stg1_0) ↦{fullShare} outAt m c))

set_option maxRecDepth 8000 in
/-- The body does what the pipeline asks. -/
theorem obligation : BodyObligation (dats (F := F) m 0 c) (defs₀ (F := F)) 𝒱₀ () Set.univ := fun t => by
  rw [fin_N0 t, bigSep_W0, bigSep_W0]
  simp only [owns_staged]
  show asked m c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_scratch0) (Memref.isWhole_whole _) (Memref.whole cc0_scratch1) (Memref.isWhole_whole _)
      (Memref.whole cc0_scratch2) (Memref.isWhole_whole _) (Memref.whole cc0_scratch3) (Memref.isWhole_whole _)
      cc0_scratch4 cc0_scratch5 cc0_scratch6 cc0_scratch7) (fun _ => answered m c)
  unfold asked before₀ Dat.owesAt Pipeline.owesWithin
  iintro ⟨⟨⟨⟨%K, HR⟩, He⟩, Hb⟩, ⟨%W, -, HO⟩, ⟨%d₀, Hx⟩, ⟨%d₁, Hout⟩⟩
  iapply (body_run m K c (fun _ => answered m c) _)
  isplitl
  · isplitl [HR]; · iexact HR
    isplitl [He]; · iexact He
    isplitl [Hb]; · iexact Hb
    isplitl [HO]; · unfold owing; iexists W; iexact HO
    isplitl [Hx]
    · rw [staged]; iexact Hx
    iexact Hout
  · unfold answered owing Dat.owesAt Pipeline.owesWithin
    iintro ⟨Hl, ⟨%W', HO⟩, Hx, Hout⟩
    isplitl [Hl]; · iexact Hl
    isplitl [HO]
    · iexists W'
      isplitr; · ipureintro; exact fun _ _ => Or.inl trivial
      iexact HO
    isplitl [Hx] <;> iassumption

/-! ## Into the pipeline and out of it -/

theorem enter :
    iprop(Pipeline.unscopedRestP Pipeline.Prefetch.none cfg0.spec c (fun b => m ((c : Thread nD τ).loc b)) ∗ levAts L lv
        ∗ Pipeline.launchCred owed₀ c ∗ prngReg c (ρ c) ∗ armed m c)
      ⊢ (|={Set.univ}=> iprop(((∃ K, recs m K) ∗ entry c) ∗ emp) : sProp 𝕄) := by
  unfold armed
  iintro ⟨-, Hl, Hc, -, HR, Ha, Ht⟩
  imodintro
  isplitl
  · isplitl [HR]; · iexact HR
    iapply (to_entry c)
    isplitl [Hl]; · iexact Hl
    isplitl [Ha]; · iexact Ha
    isplitl [Ht] <;> iassumption
  · iempintro

theorem begun :
    iprop(((∃ K, recs m K) ∗ entry c) ∗ Pipeline.prefHeld Pipeline.Prefetch.none c (fun _ => fullShare.right) (fun k => k.elim0) ∗ Pipeline.scopedRest cfg0.spec c)
      ⊢ (dats m 0 c).Φ 0 := by
  show _ ⊢ before₀ m c
  rw [scopedRest0_eq]
  unfold before₀ buffers
  iintro ⟨H, -, Hb⟩
  isplitl [H]; · iexact H
  iexact Hb

theorem ended : (dats m 0 c).Φ (Fin.last cfg0.N) ⊢ iprop(unscopedSems0 c ∗ Pipeline.ownSems0 osem c ∗ Pipeline.scopedRest cfg0.spec c) := by
  show leave c ⊢ _
  rw [scopedRest0_eq, unscoped_bar]
  unfold leave buffers Pipeline.ownSems0
  iintro ⟨Hb, Hz, He⟩
  isplitl [Hz]; · iexact Hz
  isplitl [He]; · iexact He
  iexact Hb

/-- A staging semaphore lies below everything owed. -/
theorem stage_wait (q : DmaSem sig) (hq : level (.dma q) = 0) {O : CellTallies nD τ sig Unit} (hO : O = owed₀ c ∨ O = 0) :
    (levAts L lv : sProp 𝕄) ⊢ MayWait (c : Thread nD τ) (.dma q) () O := by
  rcases hO with rfl | rfl
  · exact mayWait c (.dma q) 0 0 (fun j _ => by rw [hq]; exact Nat.one_pos) (fun j _ => by rw [hq, level_recv]; split <;> decide)
  · rw [MayWait_zero]; iintro -; iempintro

theorem stage_waits : (levAts L lv : sProp 𝕄) ⊢ Pipeline.cellsWaits cfgs (dats (F := F) m) () 0 c :=
  Pipeline.cellsWaits_intro cfgs (dats m) () 0 c fun w s t => stage_wait c _ (by fin_cases w <;> fin_cases s <;> rfl) (by
    rcases t with ⟨_ | _, ht⟩
    · exact .inl rfl
    · exact .inr rfl)

/-! ## The run -/

/-- The argument's array is as launched, -/
theorem final_arg : (dats (F := F) m 0 c).arrAt (0 : Fin 2) cfg0.N = m ((c : Thread nD τ).loc main_arg0) :=
  (dats (F := F) m 0 c).arrAt_in (0 : Fin 2) rfl _

/-- the result's at the computed contents. -/
theorem final_out : (dats (F := F) m 0 c).arrAt (1 : Fin 2) cfg0.N = outAt m c := by
  rw [show cfg0.N = t0_0.val + 1 from rfl, (dats m 0 c).arrAt_succ (1 : Fin 2) t0_0, if_pos (show (cfg0.win (1 : Fin 2)).flush t0_0 = true from rfl)]
  exact Memref.write_access_unit_zero_univ (Elt F) main_v1 (by funext a; fin_cases a <;> rfl) _ _ (outAt m c)

set_option maxRecDepth 8000 in
/-- From any memory with all counters at zero, for any float values: the program terminates; on every device the
    result array ends at `outAt` and the argument unchanged; every semaphore counter ends at zero. -/
theorem run_main : θ_run defs (onTc (τ := τ) (main (F := F))) ⟨m, fun _ => 0, ρ⟩ (fun r =>
    (∀ c : Dev nD, r.2.mem ((c : Thread nD τ).loc main_v1) = outAt m c ∧ r.2.mem ((c : Thread nD τ).loc main_arg0) = m ((c : Thread nD τ).loc main_arg0))
      ∧ r.2.sem = fun _ => 0) :=
  Pipeline.θ_run_region_owing_glob_pf (fun p => (cfgs p).toPCfg) (fun p => (cfgs p).toPCfg_adm) (dats m) () cellOf_inj (0 : Fin 1)
    winFacts0.to₀ ends_facts (Pipeline.PreFacts.none _) EP defs₀ 𝒱₀ m ρ main
    (hmain := fun _ => rfl)
    (hbody := fun c => (obligation m c).loose) (hne := block_pos0) (harr := arr_whole0) (hstage := stage_whole0)
    (hshare := fun c w => by unfold Dat.share; split <;> rfl)
    (hdistinct := winFacts0.arr_inj)
    (O₀ := owed₀) (howed₀ := fun _ => rfl) (howedN := fun _ => rfl)
    (L := L) (lv := lv) (hL := L_of_ne) (hwaits := stage_waits m)
    (G := given m) (G' := armed m) (u₀ := ghost₀)
    (hu₀ := by
      unfold ghost₀
      iintro H
      ihave H := (ownU_pair _ _) $$ H
      icases H with ⟨HP, HX⟩
      imod (give m) $$ HX with HG
      imodintro
      isplitl [HP] <;> iassumption)
    (hglob := alloc_all m)
    (hA := fun _ _ => rfl) (hpf := fun _ k => k.elim0)
    (X := fun c => iprop((∃ K, recs m K) ∗ entry c)) (Y := fun c => unscopedSems0 c) (Z := fun _ => iprop(emp))
    (hX := enter m ρ) (hin := begun m) (hout := ended m)
    (QY := fun c s => ∀ sm : SemLoc sig, sm.isScoped .tc = false → s.sem ((c.tc : Thread nD τ), sm) = 0)
    (hY := fun c s => by
      iintro ⟨Hu, -, HS⟩
      iapply (Pipeline.unscopedSems0_read (X := unscopedSems0 c) (c := c) fupd_intro s)
      isplitl [Hu] <;> iassumption)
    (hQ := fun s h hs => ⟨fun c => ⟨((h c).1 (1 : Fin 2)).trans (final_out m c), ((h c).1 (0 : Fin 2)).trans (final_arg m c)⟩,
      sem_eq_zero hs fun c => (h c).2.2⟩)

end Cert.KernelIdeal.Own
-- ==== Proof.Reference.lean ====
/-
The run of the reference: eleven operations in a row, and what its result holds afterwards.
-/
module

public import proofs.«01_k».proof.Proof.Gen.ReferenceIdeal
public import Idealize.ShloMosaic.Lib.StableHlo.Run
public import Idealize.ShloMosaic.Lib.StableHlo.RunClose
public import Idealize.ShloMosaic.Lib.Quiescent
public import Idealize.ShloMosaic.Lib.Tactic

@[expose] public section

noncomputable section

namespace Cert.ReferenceIdeal.Own

open Cert.ReferenceIdeal Cert.ReferenceIdeal.Gen
open Idealize.ShloMosaic Idealize.ShloMosaic.TcCoe Idealize.ShloMosaic.StableHlo
open Idealize.SL.Sem

variable {F : FTy → Type} [FloatOps F]

/-- The greatest value of each column, and the row it first stands in, as the reference computes them. -/
def maxOf (x : FVec F S32768x512 .f32) : FVec F S512 .f32 :=
  Host.reduce FloatOps.maximumf x (constant S_ .f32 0xFF800000#32) reducesTo_S32768x512_S512_d0 h_S_
def argmaxOf (x : FVec F S32768x512 .f32) : IVec S512 32 := fun j =>
  (Host.argReduce reducer_argmax_f32_i32 x (iotaInDim S32768x512 32 0) (constant S_ .f32 0xFF800000#32) (constantI S_ 32 0#32)
    reducesTo_S32768x512_S512_d0 h_S_ j).2

/-- Two rows, one above the other. -/
def pair (a b : FVec F S1x512 .f32) : FVec F S2x512 .f32 :=
  concatenate S2x512 0 [⟨S1x512, a⟩, ⟨S1x512, b⟩] concatenates_S1x512_S1x512_S2x512_d0

/-- The reference's result from its argument. -/
def result (x : FVec F S32768x512 .f32) : FVec F S2x512 .f32 :=
  pair (broadcastInDim S1x512 ![1] bcast_S512_S1x512_1 (maxOf x))
    (broadcastInDim S1x512 ![1] bcast_S512_S1x512_1 (sitofp .f32 (argmaxOf x) : FVec F S512 .f32))

/-- The operations of the reference, the five of its argmax first. -/
def steps : List (HloOp τ sig (Elt F)) :=
  [TRef.nullary main_call0.v0 (iotaInDim S32768x512 32 0),
    TRef.nullary main_call0.cst (constant S_ .f32 0xFF800000#32),
    TRef.nullary main_call0.c (constantI S_ 32 0#32),
    TRef.quaternary (.of main_arg0) main_call0.v0 main_call0.cst main_call0.c main_call0.v1_0
      (fun x y u v j => (Host.argReduce reducer_argmax_f32_i32 x y u v reducesTo_S32768x512_S512_d0 h_S_ j).1),
    TRef.quaternary (.of main_arg0) main_call0.v0 main_call0.cst main_call0.c main_call0.v1_1
      (fun x y u v j => (Host.argReduce reducer_argmax_f32_i32 x y u v reducesTo_S32768x512_S512_d0 h_S_ j).2),
    unary main_v0 main_v1 (sitofp .f32),
    nullary main_cst (constant S_ .f32 0xFF800000#32),
    binary main_arg0 main_cst main_v2 (fun x v => Host.reduce FloatOps.maximumf x v reducesTo_S32768x512_S512_d0 h_S_),
    unary main_v2 main_v3 (broadcastInDim S1x512 ![1] bcast_S512_S1x512_1),
    unary main_v1 main_v4 (broadcastInDim S1x512 ![1] bcast_S512_S1x512_1),
    binary main_v3 main_v4 main_v5 pair]

theorem main_steps (c : Dev nD) : main (F := F) c = seq steps := by
  unfold steps
  simp only [main, fn_argmax.body, seq, bind_assoc, pure_bind]
  rfl

theorem after_result (V : Valuation τ sig (Elt F)) : after steps V (main_v5 : DevRef τ sig) = result (V (main_arg0 : DevRef τ sig)) := by
  unfold steps
  after_results_simp
  rfl

theorem after_arg (V : Valuation τ sig (Elt F)) : after steps V (main_arg0 : DevRef τ sig) = V (main_arg0 : DevRef τ sig) := by
  unfold steps
  simp only [after_cons, after_nil]
  rfl

theorem steps_within : (steps : List (HloOp τ sig (Elt F))).Forall fun op => op.bufs ⊆ tcRefs τ sig := by
  unfold steps
  exact ⟨nullary_bufs_sub .., nullary_bufs_sub .., nullary_bufs_sub .., quaternary_bufs_sub .., quaternary_bufs_sub .., unary_bufs_sub ..,
    nullary_bufs_sub .., binary_bufs_sub .., unary_bufs_sub .., unary_bufs_sub .., binary_bufs_sub ..⟩

/-- From any memory with all counters at zero the reference terminates, its result `result` of its argument, its
    argument unchanged, every counter at zero. -/
theorem run_main (m : (ℓ : Loc nD τ sig) → Buf (Elt F) ℓ) (ρ : Dev nD → PrngReg) :
    θ_run defs (onTc (τ := τ) (main (F := F))) ⟨m, fun _ => 0, ρ⟩ (fun r =>
      (∀ c : Dev nD, r.2.mem ((c.tc : Thread nD τ).loc main_v5) = result (m ((c.tc : Thread nD τ).loc main_arg0))
        ∧ r.2.mem ((c.tc : Thread nD τ).loc main_arg0) = m ((c.tc : Thread nD τ).loc main_arg0))
      ∧ r.2.sem = fun _ => 0) :=
  (θ_run defs _ _).mono (fun r h => ⟨fun c => ⟨(h c main_v5).trans (after_result _), (h c main_arg0).trans (after_arg _)⟩,
      sem_eq_zero_of_no_sems (by decide) r.2⟩)
    (run_seq (by decide) (by decide) defs main (fun _ => steps) main_steps (fun _ => steps_within) m ρ)

end Cert.ReferenceIdeal.Own
-- ==== Proof.Best.lean ====
/-
A greatest value and the first place it stands at, on a set of places; and that sets which are searched one by one are
searched together: of the values the greatest, of the places at which it stands the least.
-/
module

public import Idealize.ShloMosaic.PureOps.Ideal.Laws

@[expose] public section

noncomputable section

namespace Cert.Proof

variable {N n : ℕ}

/-- `v` is the greatest value of `f` on `S`, and `r` the number of the first place of `S` at which it stands. -/
def Best (f : Fin N → EReal) (S : Set (Fin N)) (v r : EReal) : Prop :=
  ∃ i ∈ S, f i = v ∧ r = ((i.val : ℝ) : EReal) ∧ ∀ j ∈ S, f j ≤ v ∧ (f j = v → i ≤ j)

/-- There is one such pair at most. -/
theorem Best.unique {f : Fin N → EReal} {S : Set (Fin N)} {v r v' r' : EReal} (h : Best f S v r) (h' : Best f S v' r') :
    v = v' ∧ r = r' := by
  obtain ⟨i, hi, hv, rfl, hmax⟩ := h
  obtain ⟨i', hi', hv', rfl, hmax'⟩ := h'
  have e : v = v' := le_antisymm (hv ▸ (hmax' i hi).1) (hv' ▸ (hmax i' hi').1)
  subst e
  have ei : i = i' := le_antisymm ((hmax i' hi').2 hv') ((hmax' i hi).2 hv)
  subst ei
  exact ⟨rfl, rfl⟩

/-- Sets searched one by one: the greatest of their values, and the least of the places among the sets that reach it. -/
theorem Best.combine [NeZero n] {f : Fin N → EReal} {S : Fin n → Set (Fin N)} {v r : Fin n → EReal} {V : EReal}
    (h : ∀ t, Best f (S t) (v t) (r t)) (hV : V = Finset.univ.fold max ⊥ v) :
    Best f {i | ∃ t, i ∈ S t} V (Finset.univ.fold min ⊤ fun t => if v t = V then r t else ⊤) := by
  have hsup : V = Finset.univ.sup v := hV
  have hle : ∀ t, v t ≤ V := fun t => hsup ▸ Finset.le_sup (Finset.mem_univ t)
  obtain ⟨t₀, -, ht₀⟩ := Finset.exists_mem_eq_sup Finset.univ ⟨(0 : Fin n), Finset.mem_univ _⟩ v
  replace ht₀ : v t₀ = V := (hsup.trans ht₀).symm
  show Best f _ V (Finset.univ.inf fun t => if v t = V then r t else ⊤)
  obtain ⟨t₁, -, ht₁⟩ := Finset.exists_mem_eq_inf Finset.univ ⟨(0 : Fin n), Finset.mem_univ _⟩ (fun t => if v t = V then r t else ⊤)
  have hinf : ∀ t, v t = V → (Finset.univ.inf fun t => if v t = V then r t else ⊤) ≤ r t := fun t ht =>
    (Finset.inf_le (Finset.mem_univ t)).trans (by rw [if_pos ht])
  have hv₁ : v t₁ = V := by
    by_contra hne
    rw [if_neg hne] at ht₁
    have h0 := hinf t₀ ht₀
    rw [ht₁] at h0
    obtain ⟨i, -, -, hr, -⟩ := h t₀
    rw [hr] at h0
    exact absurd (top_le_iff.mp h0) (EReal.coe_ne_top _)
  rw [if_pos hv₁] at ht₁
  obtain ⟨i, hi, hfi, hri, hmax⟩ := h t₁
  refine ⟨i, ⟨t₁, hi⟩, hfi.trans hv₁, ht₁.trans hri, ?_⟩
  rintro j ⟨t, hj⟩
  obtain ⟨i', hi', hfi', hri', hmax'⟩ := h t
  refine ⟨(hmax' j hj).1.trans (hle t), fun hfj => ?_⟩
  have hvt : v t = V := le_antisymm (hle t) (hfj ▸ (hmax' j hj).1)
  have h1 := hinf t hvt
  rw [ht₁, hri, hri'] at h1
  have h2 : i ≤ i' := by
    have := EReal.coe_le_coe_iff.mp h1
    exact Fin.le_def.mpr (by exact_mod_cast this)
  exact h2.trans ((hmax' j hj).2 (hfj.trans hvt.symm))

/-- The smaller of two words, read as integers. -/
theorem toInt_minsi (x y : BitVec 32) : (Idealize.ShloMosaic.IntOp.minsi x y).toInt = min x.toInt y.toInt := by
  unfold Idealize.ShloMosaic.IntOp.minsi
  by_cases h : x.slt y = true
  · rw [if_pos h, min_eq_left (le_of_lt (BitVec.slt_iff_toInt_lt.mp h))]
  · rw [if_neg h, min_eq_right (not_lt.mp fun h' => h (BitVec.slt_iff_toInt_lt.mpr h'))]

/-- The least of finitely many words, read as integers. -/
theorem le_toInt_fold_minsi (g : Fin n → BitVec 32) (w : BitVec 32) (s : Finset (Fin n)) (c : ℤ) :
    c ≤ (s.fold Idealize.ShloMosaic.IntOp.minsi w g).toInt ↔ c ≤ w.toInt ∧ ∀ x ∈ s, c ≤ (g x).toInt := by
  induction s using Finset.cons_induction with
  | empty => exact ⟨fun h => ⟨h, fun x hx => absurd hx (Finset.notMem_empty x)⟩, fun h => h.1⟩
  | cons a s ha ih =>
    rw [Finset.fold_cons, toInt_minsi, le_min_iff, ih, Finset.forall_mem_cons]
    tauto

/-- A word that is below all others, and below the initial one, is the least. -/
theorem fold_minsi_eq (g : Fin n → BitVec 32) (w : BitVec 32) (t : Fin n) (hw : (g t).toInt ≤ w.toInt)
    (hle : ∀ t', (g t).toInt ≤ (g t').toInt) : Finset.univ.fold Idealize.ShloMosaic.IntOp.minsi w g = g t :=
  BitVec.eq_of_toInt_eq (le_antisymm (((le_toInt_fold_minsi g w Finset.univ _).mp le_rfl).2 t (Finset.mem_univ t))
    ((le_toInt_fold_minsi g w Finset.univ _).mpr ⟨hw, fun x _ => hle x⟩))

end Cert.Proof
-- ==== Proof.Reading.lean ====
/-
What the kernel's pure expressions are over the extended reals, column by column: the greatest value and its first row of
a device's rows, and the combination of the pairs that a device holds.
-/
module

public import proofs.«01_k».proof.Proof.Best
public import proofs.«01_k».proof.Proof.Contents
public import Idealize.ShloMosaic.Lib.ValueIdx
public import Idealize.ShloMosaic.Lib.Pipeline.Value

@[expose] public section

noncomputable section

namespace Cert.KernelIdeal.Own

open Cert.KernelIdeal Cert.KernelIdeal.Gen Cert.Proof
open Idealize.ShloMosaic Idealize.ShloMosaic.TcCoe Idealize.ShloMosaic.ValueIdx

/-- The words of minus and plus infinity. -/
theorem word_bot : Ideal.ofBits .f32 0xFF800000#32 = ⊥ := by simp [Ideal.ofBits, Ideal.ieee]
theorem word_top : Ideal.ofBits .f32 0x7F800000#32 = ⊤ := by simp [Ideal.ofBits, Ideal.ieee]

/-- A choice by equality. -/
theorem select_oeq {α : Type} (a b : Ideal .f32) (x y : α) : Scalar.select (FloatOps.cmpf .oeq a b) x y = if a = b then x else y := by
  show Scalar.select (BitVec.ofBool (decide (a = b))) x y = _
  by_cases h : a = b
  · simp [h, Scalar.select]
  · simp [h, Scalar.select]

/-- A vector of 512 as one row. -/
theorem as_row {α : Type} (x : S512.Idx → α) (h : S512.ShapeCasts S1x512) (k : Fin 512) : shapeCast S1x512 x h (ix2 0 k) = x (ix1 k) := by
  refine (shapeCast_addUnit_apply (n := 1) ![512] x h (ix2 0 k)).trans (congrArg x (funext fun a => ?_))
  match a with
  | ⟨0, _⟩ => rfl

/-- One row under each of `n`. -/
theorem each_row {α : Type} {n : ℕ} (x : S1x512.Idx → α) (h : S1x512.Broadcasts ⟨2, ![n, 512]⟩) (t : Fin n) (k : Fin 512) :
    broadcastTo ⟨2, ![n, 512]⟩ x h (ix2 t k) = x (ix2 0 k) :=
  broadcastTo_apply x h _ _ fun a => by
    match a with
    | ⟨0, _⟩ => rfl
    | ⟨1, _⟩ => rfl

/-- Inserting a row number. -/
theorem lift_row {n : ℕ} (h : Shape.Reduces ⟨2, ![n, 512]⟩ [0] S512) (t : Fin n) (k : Fin 512) : h.lift (ix1 k) t = ix2 t k := by
  funext a
  match a with
  | ⟨0, _⟩ => rfl
  | ⟨1, _⟩ => rfl

/-- The greatest value of each column. -/
theorem colMax {n : ℕ} (y : FVec Ideal ⟨2, ![n, 512]⟩ .f32) (h : Shape.Reduces ⟨2, ![n, 512]⟩ [0] S512) (hφ) (hacc) (k : Fin 512) :
    multiReduction .maximumf [0] S512 y 0xFF800000#32 h hφ hacc (ix1 k) = Finset.univ.fold max ⊥ fun t : Fin n => y (ix2 t k) := by
  rw [Ideal.multiReduction_maximumf_single]
  show Finset.univ.fold max (Ideal.ofBits .f32 0xFF800000#32) _ = _
  rw [word_bot]
  exact congrArg (Finset.univ.fold max ⊥) (funext fun t => congrArg y (lift_row h t k))

/-- The least value of each column. -/
theorem colMin {n : ℕ} (y : FVec Ideal ⟨2, ![n, 512]⟩ .f32) (h : Shape.Reduces ⟨2, ![n, 512]⟩ [0] S512) (hφ) (hacc) (k : Fin 512) :
    multiReduction .minimumf [0] S512 y 0x7F800000#32 h hφ hacc (ix1 k) = Finset.univ.fold min ⊤ fun t : Fin n => y (ix2 t k) := by
  classical
  rw [multiReduction_minimumf_eq_fold, h.fold_filter_drop_single]
  show Finset.univ.fold min (Ideal.ofBits .f32 0x7F800000#32) _ = _
  rw [word_top]
  exact congrArg (Finset.univ.fold min ⊤) (funext fun t => congrArg y (lift_row h t k))

/-- The least word of each column. -/
theorem colMinWord {n : ℕ} (y : IVec ⟨2, ![n, 512]⟩ 32) (h : Shape.Reduces ⟨2, ![n, 512]⟩ [0] S512) (hacc) (k : Fin 512) :
    multiReductionI .minsi [0] S512 y 2147483647#32 h hacc (ix1 k)
      = Finset.univ.fold IntOp.minsi 2147483647#32 fun t : Fin n => y (ix2 t k) := by
  classical
  rw [multiReductionI_eq_fold, h.fold_filter_drop_single]
  exact congrArg (Finset.univ.fold IntOp.minsi 2147483647#32) (funext fun t => congrArg y (lift_row h t k))

/-- A small number's word, read as an integer. -/
theorem toInt_small (n : ℕ) (h : n < 2 ^ 31) : (BitVec.ofNat 32 n).toInt = n := by
  rw [BitVec.toInt_ofNat']
  exact Int.bmod_eq_of_le (by omega) (by omega)

/-! ## A device's own rows -/

/-- The first row of the pair: the greatest value of the column. -/
theorem pay3_at (x : S1024x512.Idx → Ideal .f32) (k : Fin 512) :
    k0_pay3 (F := Ideal) x (ix2 0 k) = Finset.univ.fold max ⊥ fun t : Fin 1024 => x (ix2 t k) := by
  unfold k0_pay3 k0_pay2 k0_pay1
  rw [shapeCast_self]
  exact (as_row _ _ k).trans (colMax x _ _ _ k)

theorem devWord_eq (c : Dev nD) : devWord c = BitVec.ofNat 32 c.val := by
  revert c; decide

/-- The greatest value stands in some row; the second row of the pair is the number, in the whole array, of the first. -/
theorem pay4_at (c : Dev nD) (x : S1024x512.Idx → Ideal .f32) (k : Fin 512) :
    ∃ r : Fin 1024, x (ix2 r k) = k0_pay3 (F := Ideal) x (ix2 0 k)
      ∧ k0_pay4 (F := Ideal) (devWord c) x (ix2 0 k) = (((1024 * c.val + r.val : ℕ) : ℝ) : EReal)
      ∧ ∀ r' : Fin 1024, x (ix2 r' k) ≤ k0_pay3 (F := Ideal) x (ix2 0 k)
        ∧ (x (ix2 r' k) = k0_pay3 (F := Ideal) x (ix2 0 k) → r ≤ r') := by
  obtain ⟨t₀, -, ht₀⟩ := Finset.exists_mem_eq_sup Finset.univ ⟨(0 : Fin 1024), Finset.mem_univ _⟩ (fun t : Fin 1024 => x (ix2 t k))
  have hsup : k0_pay3 (F := Ideal) x (ix2 0 k) = Finset.univ.sup fun t : Fin 1024 => x (ix2 t k) := pay3_at x k
  have hne : (Finset.univ.filter fun t : Fin 1024 => x (ix2 t k) = k0_pay3 (F := Ideal) x (ix2 0 k)).Nonempty :=
    ⟨t₀, Finset.mem_filter.mpr ⟨Finset.mem_univ _, (hsup.trans ht₀).symm⟩⟩
  obtain ⟨r, hr, hfirst⟩ : ∃ r : Fin 1024, x (ix2 r k) = k0_pay3 (F := Ideal) x (ix2 0 k)
      ∧ ∀ r' : Fin 1024, x (ix2 r' k) = k0_pay3 (F := Ideal) x (ix2 0 k) → r ≤ r' :=
    ⟨_, (Finset.mem_filter.mp (Finset.min'_mem _ hne)).2,
      fun r' h => Finset.min'_le (Finset.univ.filter fun t : Fin 1024 => x (ix2 t k) = k0_pay3 (F := Ideal) x (ix2 0 k)) r'
        (Finset.mem_filter.mpr ⟨Finset.mem_univ _, h⟩)⟩
  refine ⟨r, hr, ?_, fun r' => ⟨hsup ▸ Finset.le_sup (f := fun t : Fin 1024 => x (ix2 t k)) (Finset.mem_univ r'), hfirst r'⟩⟩
  have hsel : ∀ t : Fin 1024, select (cmpf (F := Ideal) .oeq (k0_pay1 x) (broadcastTo S1024x512 (shapeCast S1x512 (k0_pay2 (F := Ideal) x) shapeCasts_S512_S1x512) broadcasts_S1x512_S1024x512))
      (iota .tc S1024x512 32 [0] iota_S1024x512_d0_w32) (broadcast S1024x512 1073741824#32) (ix2 t k)
      = if x (ix2 t k) = k0_pay3 (F := Ideal) x (ix2 0 k) then BitVec.ofNat 32 t.val else 1073741824#32 := by
    intro t
    rw [select_apply, cmpf_apply, select_oeq, iota_single_apply, broadcast_apply]
    unfold k0_pay1
    rw [shapeCast_self]
    exact if_congr (by rw [show broadcastTo S1024x512 _ broadcasts_S1x512_S1024x512 (ix2 t k) = _ from each_row _ _ t k]; rfl) rfl rfl
  have hword : multiReductionI .minsi [0] S512 (select (cmpf (F := Ideal) .oeq (k0_pay1 x) (broadcastTo S1024x512 (shapeCast S1x512 (k0_pay2 (F := Ideal) x) shapeCasts_S512_S1x512) broadcasts_S1x512_S1024x512))
      (iota .tc S1024x512 32 [0] iota_S1024x512_d0_w32) (broadcast S1024x512 1073741824#32)) 2147483647#32 reduces_S1024x512_S512 rfl (ix1 k)
      = BitVec.ofNat 32 r.val := by
    have hsmall : ∀ t : Fin 1024, (BitVec.ofNat 32 t.val).toInt = t.val := fun t => toInt_small _ (by have := t.isLt; omega)
    refine (colMinWord _ _ _ k).trans ((congrArg (Finset.univ.fold IntOp.minsi 2147483647#32) (funext hsel)).trans ?_)
    refine (fold_minsi_eq _ _ r ?_ fun t' => ?_).trans (if_pos hr)
    · rw [if_pos hr, hsmall]
      have := r.isLt
      show (r.val : ℤ) ≤ 2147483647
      omega
    · rw [if_pos hr, hsmall]
      by_cases h : x (ix2 t' k) = k0_pay3 (F := Ideal) x (ix2 0 k)
      · rw [if_pos h, hsmall]
        exact_mod_cast hfirst t' h
      · rw [if_neg h]
        have := r.isLt
        show (r.val : ℤ) ≤ 1073741824
        omega
  unfold k0_pay4
  refine (as_row _ _ k).trans ?_
  rw [sitofp_apply]
  have hadd : ∀ (a : BitVec 32) (y : IVec S512 32), addi (broadcast S512 a) y (ix1 k) = a + y (ix1 k) := fun _ _ => rfl
  rw [hadd, hword, devWord_eq]
  have hc : c.val < 32 := c.isLt
  have hr' := r.isLt
  have hval : (Scalar.muli (BitVec.ofNat 32 c.val) 1024#32 + BitVec.ofNat 32 r.val).toInt = ((1024 * c.val + r.val : ℕ) : ℤ) := by
    have e : Scalar.muli (BitVec.ofNat 32 c.val) 1024#32 + BitVec.ofNat 32 r.val = BitVec.ofNat 32 (1024 * c.val + r.val) := by
      show BitVec.ofNat 32 c.val * BitVec.ofNat 32 1024 + _ = _
      rw [← BitVec.ofNat_mul, ← BitVec.ofNat_add, Nat.mul_comm]
    rw [e, toInt_small _ (by omega)]
  show (((Scalar.muli (BitVec.ofNat 32 c.val) 1024#32 + BitVec.ofNat 32 r.val).toInt : ℝ) : EReal) = _
  rw [hval]
  push_cast
  rfl

/-! ## The pairs a device holds -/

/-- A stack of rows, read as a table. -/
theorem stack_at {α : Type} {n : ℕ} (b : (⟨3, ![n, 1, 512]⟩ : Shape).Idx → α) (h : (⟨3, ![n, 1, 512]⟩ : Shape).ShapeCasts ⟨2, ![n, 512]⟩)
    (s : Fin n) (k : Fin 512) : shapeCast ⟨2, ![n, 512]⟩ b h (ix2 s k) = b (ix3 s 0 k) :=
  shapeCast_apply b h _ _ (by
    rw [Shape.rowMajor_val_three, Shape.rowMajor_val_two]
    show (s.val * 1 + 0) * 512 + k.val = s.val * 512 + k.val
    omega)

/-- A row above a stack of rows. -/
theorem cat_at {α : Type} {n : ℕ} (a : S1x512.Idx → α) (b : (⟨3, ![n, 1, 512]⟩ : Shape).Idx → α)
    (h : (⟨3, ![n, 1, 512]⟩ : Shape).ShapeCasts ⟨2, ![n, 512]⟩) (hc : Shape.Concatenates [S1x512, ⟨2, ![n, 512]⟩] ⟨2, ![n + 1, 512]⟩ 0)
    (t : Fin (n + 1)) (k : Fin 512) :
    concatenate ⟨2, ![n + 1, 512]⟩ 0 [⟨S1x512, a⟩, ⟨⟨2, ![n, 512]⟩, shapeCast ⟨2, ![n, 512]⟩ b h⟩] hc (ix2 t k)
      = (Fin.cons (a (ix2 0 k)) (fun s => b (ix3 s 0 k)) : Fin (n + 1) → α) t := by
  refine Fin.cases ?_ (fun s => ?_) t
  · refine concatenate_pair_apply_left (t := ⟨2, ![n + 1, 512]⟩) 0 a _ hc (ix2 0 k) rfl (ix2 0 k) fun b => ?_
    match b with
    | ⟨0, _⟩ => rfl
    | ⟨1, _⟩ => rfl
  · refine (concatenate_pair_apply_right (t := ⟨2, ![n + 1, 512]⟩) 0 a _ hc (ix2 s.succ k) rfl rfl (ix2 s k) (fun b hb => ?_) ?_).trans
      (stack_at b h s k)
    · match b with
      | ⟨0, _⟩ => exact absurd rfl hb
      | ⟨1, _⟩ => rfl
    · rfl

/-- The values a device combines: its own, then those received. -/
abbrev held {n : ℕ} (a : S1x512.Idx → EReal) (b : (⟨3, ![n, 1, 512]⟩ : Shape).Idx → EReal) (k : Fin 512) : Fin (n + 1) → EReal :=
  Fin.cons (a (ix2 0 k)) fun s => b (ix3 s 0 k)

/-- Phase 1, the greatest value. -/
theorem pay7_at (a : S1x512.Idx → EReal) (b : S7x1x512.Idx → EReal) (k : Fin 512) :
    k0_pay7 (F := Ideal) a b (ix2 0 k) = Finset.univ.fold max ⊥ (held (n := 7) a b k) := by
  unfold k0_pay7 k0_pay6 k0_pay5
  exact (as_row _ _ k).trans ((colMax (n := 8) _ _ _ _ k).trans
    (congrArg (Finset.univ.fold max ⊥) (funext fun t => cat_at (n := 7) a b _ _ t k)))

/-- Phase 1, the least of the places that reach it. -/
theorem pay8_at (a : S1x512.Idx → EReal) (b : S7x1x512.Idx → EReal) (a' : S1x512.Idx → EReal) (b' : S7x1x512.Idx → EReal) (k : Fin 512) :
    k0_pay8 (F := Ideal) a b a' b' (ix2 0 k)
      = Finset.univ.fold min ⊤ fun t : Fin 8 => if held (n := 7) a b k t = k0_pay7 (F := Ideal) a b (ix2 0 k) then held (n := 7) a' b' k t else ⊤ := by
  unfold k0_pay8 k0_pay7 k0_pay5
  refine (as_row _ _ k).trans ((colMin (n := 8) _ _ _ _ k).trans (congrArg (Finset.univ.fold min ⊤) (funext fun t => ?_)))
  rw [select_apply, cmpf_apply, select_oeq, broadcast_apply]
  refine if_congr ?_ (cat_at (n := 7) a' b' _ _ t k) word_top
  exact Eq.congr (cat_at (n := 7) a b _ _ t k) (each_row (n := 8) _ _ t k)

/-- Phase 2, the greatest value. -/
theorem pay11_at (a : S1x512.Idx → EReal) (b : S3x1x512.Idx → EReal) (k : Fin 512) :
    k0_pay11 (F := Ideal) a b (ix2 0 k) = Finset.univ.fold max ⊥ (held (n := 3) a b k) := by
  unfold k0_pay11 k0_pay10 k0_pay9
  exact (as_row _ _ k).trans ((colMax (n := 4) _ _ _ _ k).trans
    (congrArg (Finset.univ.fold max ⊥) (funext fun t => cat_at (n := 3) a b _ _ t k)))

/-- Phase 2, the least of the places that reach it. -/
theorem pay12_at (a : S1x512.Idx → EReal) (b : S3x1x512.Idx → EReal) (a' : S1x512.Idx → EReal) (b' : S3x1x512.Idx → EReal) (k : Fin 512) :
    k0_pay12 (F := Ideal) a b a' b' (ix2 0 k)
      = Finset.univ.fold min ⊤ fun t : Fin 4 => if held (n := 3) a b k t = k0_pay11 (F := Ideal) a b (ix2 0 k) then held (n := 3) a' b' k t else ⊤ := by
  unfold k0_pay12 k0_pay11 k0_pay9
  refine (as_row _ _ k).trans ((colMin (n := 4) _ _ _ _ k).trans (congrArg (Finset.univ.fold min ⊤) (funext fun t => ?_)))
  rw [select_apply, cmpf_apply, select_oeq, broadcast_apply]
  refine if_congr ?_ (cat_at (n := 3) a' b' _ _ t k) word_top
  exact Eq.congr (cat_at (n := 3) a b _ _ t k) (each_row (n := 4) _ _ t k)

/-! ## What the loads read -/

theorem rows_at0 {α : Type} (a b : S1x512.Idx → α) (k : Fin 512) : rows a b (ix2 0 k) = a (ix2 0 k) := by
  refine (if_pos rfl).trans (congrArg a (funext fun d => ?_))
  match d with
  | ⟨0, _⟩ => rfl
  | ⟨1, _⟩ => rfl

theorem rows_at1 {α : Type} (a b : S1x512.Idx → α) (k : Fin 512) : rows a b (ix2 1 k) = b (ix2 0 k) := by
  refine (if_neg Nat.one_ne_zero).trans (congrArg b (funext fun d => ?_))
  match d with
  | ⟨0, _⟩ => rfl
  | ⟨1, _⟩ => rfl

theorem stackOf_at {α : Type} {n : ℕ} (g : Fin n → S2x512.Idx → α) (s : Fin n) (r : Fin 2) (k : Fin 512) :
    stackOf g (ix3 s r k) = g s (ix2 r k) := by
  refine congrArg (g s) (funext fun d => ?_)
  match d with
  | ⟨0, _⟩ => rfl
  | ⟨1, _⟩ => rfl

/-- A load of one row of a pair, and of that row of each pair of a stack. -/
theorem pair_row {off : Fin 2 → ℕ} (h : ∀ a, off a + S1x512.size a ≤ S2x512.size a) (r : Fin 2) (h0 : off 0 = r.val) (h1 : off 1 = 0)
    (k : Fin 512) : (Rect.unit (s := S2x512) off S1x512.size h).emb (ix2 (0 : Fin 1) k) = ix2 r k := by
  funext d
  apply Fin.ext
  rw [Rect.emb_apply]
  match d with
  | ⟨0, _⟩ => exact h0
  | ⟨1, _⟩ => exact (congrArg₂ (· + ·) h1 (Nat.one_mul k.val)).trans (Nat.zero_add _)

theorem stack_row {n : ℕ} {off : Fin 3 → ℕ} (h : ∀ a, off a + (![n, 1, 512] : Fin 3 → ℕ) a ≤ (![n, 2, 512] : Fin 3 → ℕ) a) (r : Fin 2)
    (h0 : off 0 = 0) (h1 : off 1 = r.val) (h2 : off 2 = 0) (s : Fin n) (k : Fin 512) :
    (Rect.unit (s := ⟨3, ![n, 2, 512]⟩) off ![n, 1, 512] h).emb (ix3 s (0 : Fin 1) k) = ix3 s r k := by
  funext d
  apply Fin.ext
  rw [Rect.emb_apply]
  match d with
  | ⟨0, _⟩ => exact (congrArg₂ (· + ·) h0 (Nat.one_mul s.val)).trans (Nat.zero_add _)
  | ⟨1, _⟩ => exact h1
  | ⟨2, _⟩ => exact (congrArg₂ (· + ·) h2 (Nat.one_mul k.val)).trans (Nat.zero_add _)

/-- What a device combines in phase 1 is its own pair and the seven received. -/
theorem held0_seven (p : S2x512.Idx → EReal) (g : Fin 7 → S2x512.Idx → EReal) (k : Fin 512) :
    held (n := 7) (loadA0 (F := Ideal) p) (loadR0 (F := Ideal) (stackOf g)) k
      = fun t => (Fin.cons p g : Fin 8 → S2x512.Idx → EReal) t (ix2 0 k) := by
  funext t
  refine Fin.cases ?_ (fun s => ?_) t
  · exact congrArg p (pair_row inb_S2x512_S1x512_0_0 0 rfl rfl k)
  · exact (congrArg (stackOf g) (stack_row (n := 7) _ 0 rfl rfl rfl s k)).trans (stackOf_at g s 0 k)

theorem held1_seven (p : S2x512.Idx → EReal) (g : Fin 7 → S2x512.Idx → EReal) (k : Fin 512) :
    held (n := 7) (loadA1 (F := Ideal) p) (loadR1 (F := Ideal) (stackOf g)) k
      = fun t => (Fin.cons p g : Fin 8 → S2x512.Idx → EReal) t (ix2 1 k) := by
  funext t
  refine Fin.cases ?_ (fun s => ?_) t
  · exact congrArg p (pair_row inb_S2x512_S1x512_1_0 1 rfl rfl k)
  · exact (congrArg (stackOf g) (stack_row (n := 7) _ 1 rfl rfl rfl s k)).trans (stackOf_at g s 1 k)

/-- What a device combines in phase 2 is its plane's pair and the three received. -/
theorem held0_three (p : S2x512.Idx → EReal) (g : Fin 3 → S2x512.Idx → EReal) (k : Fin 512) :
    held (n := 3) (loadB0 (F := Ideal) p) (loadZ0 (F := Ideal) (stackOf g)) k
      = fun t => (Fin.cons p g : Fin 4 → S2x512.Idx → EReal) t (ix2 0 k) := by
  funext t
  refine Fin.cases ?_ (fun s => ?_) t
  · exact congrArg p (pair_row inb_S2x512_S1x512_0_0 0 rfl rfl k)
  · exact (congrArg (stackOf g) (stack_row (n := 3) _ 0 rfl rfl rfl s k)).trans (stackOf_at g s 0 k)

theorem held1_three (p : S2x512.Idx → EReal) (g : Fin 3 → S2x512.Idx → EReal) (k : Fin 512) :
    held (n := 3) (loadB1 (F := Ideal) p) (loadZ1 (F := Ideal) (stackOf g)) k
      = fun t => (Fin.cons p g : Fin 4 → S2x512.Idx → EReal) t (ix2 1 k) := by
  funext t
  refine Fin.cases ?_ (fun s => ?_) t
  · exact congrArg p (pair_row inb_S2x512_S1x512_1_0 1 rfl rfl k)
  · exact (congrArg (stackOf g) (stack_row (n := 3) _ 1 rfl rfl rfl s k)).trans (stackOf_at g s 1 k)

end Cert.KernelIdeal.Own
-- ==== Proof.Value.lean ====
/-
The kernel's result over the extended reals, when the devices hold the blocks of one array: of every column of the whole
array the greatest value and the number of the first row at which it stands.
-/
module

public import proofs.«01_k».proof.Proof.Reading
public import Idealize.ShloMosaic.Lib.Layout

@[expose] public section

noncomputable section

namespace Cert.KernelIdeal.Own

open Cert.KernelIdeal Cert.KernelIdeal.Gen Cert.Proof
open Idealize.ShloMosaic Idealize.ShloMosaic.TcCoe Idealize.ShloMosaic.ValueIdx

/-- The whole array, and a column of it. -/
abbrev Whole : Type := (⟨2, ![32768, 512]⟩ : Shape).Idx → EReal
abbrev col (X : Whole) (k : Fin 512) : Fin 32768 → EReal := fun i => X (ix2 i k)

/-- The rows of a device, and those of a plane. -/
def ofDev (c : Dev nD) : Set (Fin 32768) := {i | i.val / 1024 = c.val}
def ofPlane (q : ℕ) : Set (Fin 32768) := {i | i.val / 8192 = q}

/-- The eight devices whose pairs device `c` combines in phase 1, and the four in phase 2. -/
def mate (c : Dev nD) : Fin 8 → Dev nD := Fin.cons c fun s : Fin 7 => peer c (s.castLE (by decide))
def line (c : Dev nD) : Fin 4 → Dev nD := Fin.cons c fun s : Fin 3 => peer c ⟨s.val + 7, by have := s.isLt; omega⟩

/-- The eight are the devices of the plane; of the four there is one in each plane. -/
theorem mate_plane (c d : Dev nD) : (∃ t, mate c t = d) ↔ d.val / 8 = c.val / 8 := by revert c d; decide +kernel
theorem line_planes (c : Dev nD) (q : Fin 4) : ∃ t, (line c t).val / 8 = q.val := by revert c q; decide +kernel

variable (m : (ℓ : Loc nD τ sig) → Buf (Elt Ideal) ℓ) (X : Whole)

/-- Each device holds its block of the whole array. -/
def Blocks : Prop := ∀ c : Dev nD, m ((c : Thread nD τ).loc main_arg0) = Layout.block ⟨2, ![1024, 512]⟩ ⟨2, ![32768, 512]⟩ 0 32 c X

/-- Row `r` of device `c` in the whole array. -/
abbrev rowOf (c : Dev nD) (r : Fin 1024) : Fin 32768 := ⟨1024 * c.val + r.val, by have h : c.val < 32 := c.isLt; have := r.isLt; omega⟩

variable {m X}

theorem xAt_at (hX : Blocks m X) (c : Dev nD) (r : Fin 1024) (k : Fin 512) : xAt m c (ix2 r k) = X (ix2 (rowOf c r) k) := by
  have h1 : xAt m c (ix2 r k) = m ((c : Thread nD τ).loc main_arg0) (ix2 r k) := by
    refine congrArg (m ((c : Thread nD τ).loc main_arg0)) (funext fun d => Fin.ext ?_)
    match d with
    | ⟨0, _⟩ => exact (Nat.zero_add _).trans (Nat.one_mul _)
    | ⟨1, _⟩ => exact (Nat.zero_add _).trans (Nat.one_mul _)
  rw [h1, hX c]
  refine congrArg X (funext fun d => Fin.ext ?_)
  match d with
  | ⟨0, _⟩ => exact congrArg (· + r.val) (Nat.mul_comm c.val 1024)
  | ⟨1, _⟩ => rfl

/-- A pair that states a column's greatest value on a set of rows, and its first row. -/
abbrev States (p : S2x512.Idx → EReal) (X : Whole) (S : Set (Fin 32768)) (k : Fin 512) : Prop :=
  Best (col X k) S (p (ix2 0 k)) (p (ix2 1 k))

/-- A device's pair speaks of its own rows. -/
theorem acc1_states (hX : Blocks m X) (c : Dev nD) (k : Fin 512) : States (acc1 m c) X (ofDev c) k := by
  obtain ⟨r, hr, hidx, hmax⟩ := pay4_at c (xAt m c) k
  unfold States
  rw [show acc1 m c (ix2 0 k) = k0_pay3 (xAt m c) (ix2 0 k) from rows_at0 _ _ k,
    show acc1 m c (ix2 1 k) = k0_pay4 (devWord c) (xAt m c) (ix2 0 k) from rows_at1 _ _ k]
  refine ⟨rowOf c r, ?_, (xAt_at hX c r k).symm.trans hr, hidx, fun j hj => ?_⟩
  · have := r.isLt
    show (1024 * c.val + r.val) / 1024 = c.val
    omega
  · have hj' : j.val / 1024 = c.val := hj
    have hj2 := j.isLt
    obtain ⟨r', rfl⟩ : ∃ r', j = rowOf c r' := ⟨⟨j.val % 1024, Nat.mod_lt _ (by norm_num)⟩, Fin.ext (by
      show j.val = 1024 * c.val + j.val % 1024
      omega)⟩
    have h := hmax r'
    rw [xAt_at hX c r' k] at h
    refine ⟨h.1, fun e => ?_⟩
    have h2 := Fin.le_def.mp (h.2 e)
    exact Fin.le_def.mpr (Nat.add_le_add_left h2 _)

/-- After phase 1 it speaks of the plane's rows. -/
theorem acc2_states (hX : Blocks m X) (c : Dev nD) (k : Fin 512) : States (acc2 m c) X (ofPlane (c.val / 8)) k := by
  have hall : ∀ t, States (acc1 m (mate c t)) X (ofDev (mate c t)) k := fun t => acc1_states hX _ k
  have hmates : (Fin.cons (acc1 m c) fun s : Fin 7 => acc1 m (peer c (s.castLE (by decide))) : Fin 8 → S2x512.Idx → EReal)
      = fun t => acc1 m (mate c t) := by
    funext t
    refine Fin.cases rfl (fun s => rfl) t
  unfold States
  have e0 : acc2 m c (ix2 0 k) = k0_pay7 (loadA0 (acc1 m c)) (loadR0 (recv1 m c)) (ix2 0 k) := rows_at0 _ _ k
  have e1 : acc2 m c (ix2 1 k) = k0_pay8 (loadA0 (acc1 m c)) (loadR0 (recv1 m c)) (loadA1 (acc1 m c)) (loadR1 (recv1 m c)) (ix2 0 k) :=
    rows_at1 _ _ k
  rw [e1, pay8_at, ← e0]
  have e0' := e0.trans (pay7_at _ _ k)
  unfold recv1 at e0' ⊢
  rw [held0_seven, hmates] at e0'
  rw [held0_seven, held1_seven, hmates]
  have h := Best.combine hall e0'
  have hS : {i | ∃ t, i ∈ ofDev (mate c t)} = ofPlane (c.val / 8) := by
    ext i
    have hi := i.isLt
    have hp := mate_plane c ⟨i.val / 1024, by show i.val / 1024 < 32; omega⟩
    constructor
    · rintro ⟨t, ht⟩
      have ht' : i.val / 1024 = (mate c t).val := ht
      have := hp.mp ⟨t, Fin.ext ht'.symm⟩
      have h3 : i.val / 1024 / 8 = c.val / 8 := this
      show i.val / 8192 = c.val / 8
      omega
    · intro hq
      have hq' : i.val / 8192 = c.val / 8 := hq
      obtain ⟨t, ht⟩ := hp.mpr (by show i.val / 1024 / 8 = c.val / 8; omega)
      exact ⟨t, (congrArg Fin.val ht).symm⟩
  rw [hS] at h
  exact h

/-- After phase 2 it speaks of all rows. -/
theorem outAt_states (hX : Blocks m X) (c : Dev nD) (k : Fin 512) : States (outAt m c) X Set.univ k := by
  have hall : ∀ t, States (acc2 m (line c t)) X (ofPlane ((line c t).val / 8)) k := fun t => acc2_states hX _ k
  have hline : (Fin.cons (acc2 m c) fun s : Fin 3 => acc2 m (peer c ⟨s.val + 7, by have := s.isLt; omega⟩) : Fin 4 → S2x512.Idx → EReal)
      = fun t => acc2 m (line c t) := by
    funext t
    refine Fin.cases rfl (fun s => rfl) t
  unfold States
  have e0 : outAt m c (ix2 0 k) = k0_pay11 (loadB0 (acc2 m c)) (loadZ0 (recv2 m c)) (ix2 0 k) := rows_at0 _ _ k
  have e1 : outAt m c (ix2 1 k) = k0_pay12 (loadB0 (acc2 m c)) (loadZ0 (recv2 m c)) (loadB1 (acc2 m c)) (loadZ1 (recv2 m c)) (ix2 0 k) :=
    rows_at1 _ _ k
  rw [e1, pay12_at, ← e0]
  have e0' := e0.trans (pay11_at _ _ k)
  unfold recv2 at e0' ⊢
  rw [held0_three, hline] at e0'
  rw [held0_three, held1_three, hline]
  have h := Best.combine hall e0'
  have hS : {i | ∃ t, i ∈ ofPlane ((line c t).val / 8)} = Set.univ := by
    ext i
    have hi := i.isLt
    refine ⟨fun _ => trivial, fun _ => ?_⟩
    obtain ⟨t, ht⟩ := line_planes c ⟨i.val / 8192, by omega⟩
    exact ⟨t, ht.symm⟩
  rw [hS] at h
  exact h

end Cert.KernelIdeal.Own
-- ==== Proof.RefValue.lean ====
/-
The reference's result over the extended reals: of every column the greatest value and the number of the first row at
which it stands.
-/
module

public import proofs.«01_k».proof.Proof.Best
public import proofs.«01_k».proof.Proof.Reference
public import Idealize.ShloMosaic.Lib.ValueIdx
public import Idealize.ShloMosaic.Lib.Pipeline.Value

@[expose] public section

noncomputable section

namespace Cert.ReferenceIdeal.Own

open Cert.ReferenceIdeal Cert.ReferenceIdeal.Gen Cert.Proof
open Idealize.ShloMosaic Idealize.ShloMosaic.TcCoe Idealize.ShloMosaic.ValueIdx

/-- A pair of a value and a word that another does not beat: its value is as great, and its word as small where the values
    are equal. -/
def Beats (p q : EReal × BitVec 32) : Prop := q.1 ≤ p.1 ∧ (q.1 = p.1 → p.2.toInt ≤ q.2.toInt)

theorem Beats.refl (p : EReal × BitVec 32) : Beats p p := ⟨le_rfl, fun _ => le_rfl⟩

theorem Beats.trans {p q r : EReal × BitVec 32} (h : Beats p q) (h' : Beats q r) : Beats p r :=
  ⟨h'.1.trans h.1, fun e => by
    have e1 : q.1 = p.1 := le_antisymm h.1 (e ▸ h'.1)
    exact (h.2 e1).trans (h'.2 (e.trans e1.symm))⟩

/-- The reference's step takes one of its two pairs, which beats both. -/
theorem step_beats (p q : EReal × BitVec 32) :
    (reducer_argmax_f32_i32 (F := Ideal) p q = p ∨ reducer_argmax_f32_i32 (F := Ideal) p q = q)
      ∧ Beats (reducer_argmax_f32_i32 (F := Ideal) p q) p ∧ Beats (reducer_argmax_f32_i32 (F := Ideal) p q) q := by
  obtain ⟨a, i⟩ := p
  obtain ⟨b, j⟩ := q
  have e : reducer_argmax_f32_i32 (F := Ideal) (a, i) (b, j)
      = (if b < a then a else b, if b < a ∨ (a = b ∧ i.toInt < j.toInt) then i else j) := by
    simp only [reducer_argmax_f32_i32, Ideal.cmpf_def, Ideal.cmp, IntOp.cmpi, IntOp.ori, IntOp.andi, Scalar.select]
    by_cases h1 : b < a <;> by_cases h2 : a = b <;> by_cases h3 : i.toInt < j.toInt <;> simp [h1, h2, h3, BitVec.slt]
  rw [e]
  rcases lt_trichotomy b a with h | h | h
  · rw [if_pos h, if_pos (Or.inl h)]
    exact ⟨Or.inl rfl, Beats.refl _, h.le, fun e => absurd e h.ne⟩
  · subst h
    rw [if_neg (lt_irrefl b)]
    by_cases h3 : i.toInt < j.toInt
    · rw [if_pos (Or.inr ⟨rfl, h3⟩)]
      exact ⟨Or.inl rfl, Beats.refl _, le_rfl, fun _ => h3.le⟩
    · rw [if_neg (by rintro (h | h); exacts [lt_irrefl b h, h3 h.2])]
      exact ⟨Or.inr rfl, ⟨le_rfl, fun _ => not_lt.mp h3⟩, Beats.refl _⟩
  · rw [if_neg h.not_gt, if_neg (by rintro (h' | h'); exacts [h.not_gt h', h.ne h'.1])]
    exact ⟨Or.inr rfl, ⟨h.le, fun e => absurd e h.ne⟩, Beats.refl _⟩

/-- The steps one after another end at one of the pairs, which beats all. -/
theorem steps_beat (l : List (EReal × BitVec 32)) (p : EReal × BitVec 32) :
    l.foldl (reducer_argmax_f32_i32 (F := Ideal)) p ∈ p :: l
      ∧ ∀ q ∈ p :: l, Beats (l.foldl (reducer_argmax_f32_i32 (F := Ideal)) p) q := by
  induction l generalizing p with
  | nil => exact ⟨List.mem_cons_self, fun q hq => by rw [List.mem_singleton.mp hq]; exact Beats.refl p⟩
  | cons b l ih =>
    rw [List.foldl_cons]
    obtain ⟨hmem, hbeat⟩ := ih (reducer_argmax_f32_i32 (F := Ideal) p b)
    obtain ⟨hone, hp, hb⟩ := step_beats p b
    have hfirst := hbeat _ List.mem_cons_self
    constructor
    · rcases List.mem_cons.mp hmem with h | h
      · rw [h]
        rcases hone with h' | h' <;> rw [h'] <;> simp
      · exact List.mem_cons_of_mem _ (List.mem_cons_of_mem _ h)
    · intro q hq
      rcases List.mem_cons.mp hq with rfl | hq
      · exact hfirst.trans hp
      rcases List.mem_cons.mp hq with rfl | hq
      · exact hfirst.trans hb
      · exact hbeat q (List.mem_cons_of_mem _ hq)

variable (X : FVec Ideal S32768x512 .f32)

theorem drop_eq (i : Fin 32768) (k' k : Fin 512) : reducesTo_S32768x512_S512_d0.drop (ix2 i k') = ix1 k ↔ k' = k := by
  have h : reducesTo_S32768x512_S512_d0.drop (ix2 i k') = ix1 k' := by
    funext a
    match a with
    | ⟨0, _⟩ => rfl
  rw [h]
  exact ⟨fun e => congrFun e 0, fun e => by rw [e]⟩

/-- The pairs the reference goes through in a column: each value with its row. -/
theorem mem_column (k : Fin 512) (p : EReal × BitVec 32) :
    p ∈ Host.argReduceFiber X (iotaInDim S32768x512 32 0) reducesTo_S32768x512_S512_d0 (ix1 k)
      ↔ ∃ i : Fin 32768, p = (X (ix2 i k), BitVec.ofNat 32 i.val) := by
  unfold Host.argReduceFiber
  rw [List.mem_map]
  constructor
  · rintro ⟨n, hn, rfl⟩
    have hd := of_decide_eq_true (List.mem_filter.mp hn).2
    rw [eq_ix2 (S32768x512.rowMajor.symm n)] at hd ⊢
    have hk := (drop_eq _ _ k).mp hd
    rw [hk]
    exact ⟨_, rfl⟩
  · rintro ⟨i, rfl⟩
    refine ⟨S32768x512.rowMajor (ix2 i k), List.mem_filter.mpr ⟨List.mem_finRange _, decide_eq_true ?_⟩, ?_⟩
    · rw [Equiv.symm_apply_apply]
      exact (drop_eq i k k).mpr rfl
    · rw [Equiv.symm_apply_apply]
      rfl

theorem word_bot : Ideal.ofBits .f32 0xFF800000#32 = ⊥ := by simp [Ideal.ofBits, Ideal.ieee]

/-- The word of a row number, read as an integer. -/
theorem toInt_row (i : Fin 32768) : (BitVec.ofNat 32 i.val).toInt = i.val := by
  have := i.isLt
  rw [BitVec.toInt_ofNat']
  exact Int.bmod_eq_of_le (by omega) (by omega)

/-- A fold of `max` over all places is the value at the place no other exceeds. -/
theorem fold_max_eq {n : ℕ} (f : Fin n → EReal) (i : Fin n) (h : ∀ j, f j ≤ f i) : Finset.univ.fold max ⊥ f = f i :=
  le_antisymm (Finset.fold_max_le (f i) |>.mpr ⟨bot_le, fun j _ => h j⟩) (Finset.le_fold_max (f i) |>.mpr (Or.inr ⟨i, Finset.mem_univ i, le_rfl⟩))

/-- Over the extended reals an arg-reduction's word is the one its steps end at, at any shape. -/
theorem word_at {s t u : Shape} {axes : List (Fin s.rank)} (f : Ideal .f32 × BitVec 32 → Ideal .f32 × BitVec 32 → Ideal .f32 × BitVec 32)
    (x : FVec Ideal s .f32) (y : IVec s 32) (ix : FVec Ideal u .f32) (iy : IVec u 32) (h : s.ReducesTo axes t) (hu : 0 < u.numel)
    (b : Ideal .f32) (w : BitVec 32) (hb : ix (Shape.Idx.first hu) = b) (hw : iy (Shape.Idx.first hu) = w) :
    (fun j => (Host.argReduce f x y ix iy h hu j).2) = fun j => ((Host.argReduceFiber x y h j).foldl f (b, w)).2 := by
  subst hb hw
  funext j
  rw [Ideal.argReduce_eq_reduce2, Host.reduce2_eq_foldl_fiber]

/-- The reference's row numbers over the extended reals, written out. -/
theorem argmaxOf_eq : argmaxOf X = fun j => (Host.argReduce (reducer_argmax_f32_i32 (F := Ideal)) X (iotaInDim S32768x512 32 0)
    (constant S_ .f32 0xFF800000#32) (constantI S_ 32 0#32) reducesTo_S32768x512_S512_d0 h_S_ j).2 := rfl

/-- The reference's row number is the word its steps end at. -/
theorem argmaxOf_at (k : Fin 512) :
    argmaxOf X (ix1 k) = ((Host.argReduceFiber X (iotaInDim S32768x512 32 0) reducesTo_S32768x512_S512_d0 (ix1 k)).foldl
      (reducer_argmax_f32_i32 (F := Ideal)) ((⊥ : EReal), 0#32)).2 :=
  congrFun ((argmaxOf_eq X).trans (word_at (s := S32768x512) (t := S512) (u := S_) reducer_argmax_f32_i32 X (iotaInDim S32768x512 32 0)
    (constant S_ .f32 0xFF800000#32) (constantI S_ 32 0#32) reducesTo_S32768x512_S512_d0 h_S_ (⊥ : EReal) 0#32 word_bot rfl)) (ix1 k)

/-- The word of the place the steps end at, as a value. -/
theorem sitofp_at (x : IVec S512 32) (k : Fin 512) : (sitofp .f32 x : FVec Ideal S512 .f32) (ix1 k) = (((x (ix1 k)).toInt : ℝ) : EReal) := rfl

/-- The reference's maximum is the greatest value of the column. -/
theorem maxOf_at (k : Fin 512) : maxOf X (ix1 k) = Finset.univ.fold max ⊥ fun i : Fin 32768 => X (ix2 i k) := by
  have hr : Shape.Reduces S32768x512 [0] S512 := by decide
  classical
  unfold maxOf
  rw [Host.reduce_eq_fold_single _ _ _ _ hr]
  show Finset.univ.fold max (Ideal.ofBits .f32 0xFF800000#32) _ = _
  rw [word_bot]
  refine congrArg (Finset.univ.fold max ⊥) (funext fun t => congrArg X (funext fun a => ?_))
  match a with
  | ⟨0, _⟩ => rfl
  | ⟨1, _⟩ => rfl

/-- The reference's pair of a column: the greatest value and its first row. -/
theorem reference_best (k : Fin 512) :
    Best (fun i : Fin 32768 => X (ix2 i k)) Set.univ (maxOf X (ix1 k)) ((sitofp .f32 (argmaxOf X) : FVec Ideal S512 .f32) (ix1 k)) := by
  rw [sitofp_at, argmaxOf_at]
  obtain ⟨hmem, hbeat⟩ := steps_beat (Host.argReduceFiber X (iotaInDim S32768x512 32 0) reducesTo_S32768x512_S512_d0 (ix1 k)) ((⊥ : EReal), 0#32)
  generalize (Host.argReduceFiber X (iotaInDim S32768x512 32 0) reducesTo_S32768x512_S512_d0 (ix1 k)).foldl
      (reducer_argmax_f32_i32 (F := Ideal)) ((⊥ : EReal), 0#32) = q at hmem hbeat ⊢
  have hrow : ∀ i : Fin 32768, Beats q (X (ix2 i k), BitVec.ofNat 32 i.val) := fun i =>
    hbeat _ (List.mem_cons_of_mem _ ((mem_column X k _).mpr ⟨i, rfl⟩))
  have hends : ∃ i : Fin 32768, q = (X (ix2 i k), BitVec.ofNat 32 i.val) := by
    rcases List.mem_cons.mp hmem with h | h
    · have h0 := (hrow 0).1
      rw [h] at h0
      exact ⟨0, h.trans (congrArg (fun v : EReal => (v, 0#32)) (le_bot_iff.mp h0).symm)⟩
    · exact (mem_column X k q).mp h
  obtain ⟨i, rfl⟩ := hends
  have hle : ∀ j : Fin 32768, X (ix2 j k) ≤ X (ix2 i k) := fun j => (hrow j).1
  have hmax : maxOf X (ix1 k) = X (ix2 i k) := (maxOf_at X k).trans (fold_max_eq (fun i : Fin 32768 => X (ix2 i k)) i hle)
  rw [hmax]
  refine ⟨i, trivial, rfl, by rw [toInt_row]; norm_num, fun j _ => ⟨hle j, fun e => ?_⟩⟩
  have h2 := (hrow j).2 e
  rw [toInt_row, toInt_row] at h2
  exact Fin.le_def.mpr (Int.ofNat_le.mp h2)

/-- A vector of 512 as one row. -/
theorem row_of (x : FVec Ideal S512 .f32) (k : Fin 512) : broadcastInDim S1x512 ![1] bcast_S512_S1x512_1 x (ix2 0 k) = x (ix1 k) :=
  broadcastInDim_apply _ _ x _ _ fun a => by
    match a with
    | ⟨0, _⟩ => rfl

/-- The reference's two rows. -/
theorem result_at0 (k : Fin 512) : result X (ix2 0 k) = maxOf X (ix1 k) := by
  refine (concatenate_pair_apply_left (t := S2x512) 0 _ _ concatenates_S1x512_S1x512_S2x512_d0 (ix2 0 k) rfl (ix2 0 k) fun b => ?_).trans (row_of _ k)
  match b with
  | ⟨0, _⟩ => rfl
  | ⟨1, _⟩ => rfl

theorem result_at1 (k : Fin 512) : result X (ix2 1 k) = (sitofp .f32 (argmaxOf X) : FVec Ideal S512 .f32) (ix1 k) := by
  refine (concatenate_pair_apply_right (t := S2x512) 0 _ _ concatenates_S1x512_S1x512_S2x512_d0 (ix2 1 k) rfl rfl (ix2 0 k) (fun b hb => ?_) ?_).trans
    (row_of _ k)
  · match b with
    | ⟨0, _⟩ => exact absurd rfl hb
    | ⟨1, _⟩ => rfl
  · rfl

end Cert.ReferenceIdeal.Own
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Launch
public import proofs.«01_k».proof.Proof.Reference
public import proofs.«01_k».proof.Proof.Value
public import proofs.«01_k».proof.Proof.RefValue
public import Idealize.ShloMosaic.Adequacy
public import Idealize.ShloMosaic.Init

@[expose] public section

noncomputable section

namespace Cert.Proof

open Idealize.ShloMosaic Idealize.SL.Sem Cert.Kernel

/-- The two printed programs have one body table. -/
theorem bodies_eq : Cert.Kernel.defs₀ (F := Bits) = Cert.KernelIdeal.defs₀ (F := Bits) := by
  unfold Cert.Kernel.defs₀ Cert.KernelIdeal.defs₀
  congr 1
  funext l a
  match l with
  | 0 => rfl

theorem defs_eq : Cert.Kernel.defs (F := Bits) = Cert.KernelIdeal.defs (F := Bits) := by
  unfold Cert.Kernel.defs Cert.KernelIdeal.defs
  rw [bodies_eq]
  rfl

/-- The kernel terminates, its argument unchanged and every counter at zero: the run over any float values, at the
    float words. -/
theorem frame_kernel : Cert.quiescent_Kernel (hKernel := Cert.Kernel.Gen.facts) := fun m ρ _ => by
  rw [defs_eq]
  exact (θ_run (Cert.KernelIdeal.defs (F := Bits)) _ _).mono (fun _ h => ⟨fun c => (h.1 c).2, h.2⟩)
    (Cert.KernelIdeal.Own.run_main (F := Bits) m ρ)

/-- The same of the idealized kernel: the run at the extended reals. -/
theorem frame_kernelIdeal : Cert.quiescent_KernelIdeal (hKernelIdeal := Cert.KernelIdeal.Gen.facts) := fun m ρ _ =>
  (θ_run (Cert.KernelIdeal.defs (F := Ideal)) _ _).mono (fun _ h => ⟨fun c => (h.1 c).2, h.2⟩) (Cert.KernelIdeal.Own.run_main (F := Ideal) m ρ)

/-- The reference terminates, its argument unchanged and every counter at zero. -/
theorem frame_reference : Cert.quiescent_ReferenceIdeal (hReferenceIdeal := Cert.ReferenceIdeal.Gen.facts) := fun m ρ _ =>
  (θ_run (Cert.ReferenceIdeal.defs (F := Ideal)) _ _).mono (fun _ h => ⟨fun c => (h.1 c).2, h.2⟩) (Cert.ReferenceIdeal.Own.run_main (F := Ideal) m ρ)

open Idealize.ShloMosaic.ValueIdx in
/-- When the devices hold the blocks of an array, each of them ends with what the reference makes of that array. -/
theorem outAt_eq_result (m : (ℓ : Loc Cert.KernelIdeal.nD Cert.KernelIdeal.τ Cert.KernelIdeal.sig) → Buf (Elt Ideal) ℓ)
    (X : Cert.KernelIdeal.Own.Whole) (hX : Cert.KernelIdeal.Own.Blocks m X) (c : Dev Cert.KernelIdeal.nD) :
    Cert.KernelIdeal.Own.outAt m c = Cert.ReferenceIdeal.Own.result (F := Ideal) X := by
  funext i
  obtain ⟨r, k, rfl⟩ : ∃ (r : Fin 2) (k : Fin 512), i = ix2 r k := ⟨_, _, eq_ix2 i⟩
  obtain ⟨hv, hr⟩ := (Cert.KernelIdeal.Own.outAt_states hX c k).unique (Cert.ReferenceIdeal.Own.reference_best X k)
  match r with
  | ⟨0, _⟩ => exact hv.trans (Cert.ReferenceIdeal.Own.result_at0 X k).symm
  | ⟨1, _⟩ => exact hr.trans (Cert.ReferenceIdeal.Own.result_at1 X k).symm

/-- Kernel and reference end with the same array: on every device the kernel's result is the reference's of the whole. -/
theorem algebraic : Cert.algebraic_KernelIdeal_ReferenceIdeal (hKernelIdeal := Cert.KernelIdeal.Gen.facts)
    (hReferenceIdeal := Cert.ReferenceIdeal.Gen.facts) := fun m g m' g' _ hX =>
  ⟨_, (θ_run (Cert.KernelIdeal.defs (F := Ideal)) _ _).mono
      (fun _ h c => ⟨(h.1 c).1.trans (outAt_eq_result m _ hX c), (h.1 c).2⟩) (Cert.KernelIdeal.Own.run_main (F := Ideal) m g),
    (θ_run (Cert.ReferenceIdeal.defs (F := Ideal)) _ _).mono (fun _ h => h.1 0) (Cert.ReferenceIdeal.Own.run_main (F := Ideal) m' g')⟩

theorem claim : Cert.Claim := ⟨Cert.Kernel.Gen.facts, Cert.KernelIdeal.Gen.facts, Cert.ReferenceIdeal.Gen.facts,
  frame_kernel, frame_kernelIdeal, frame_reference, trivial, algebraic⟩

end Cert.Proof

end
